-- ==== Defs.lean ====
def Pre_Kernel [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lens_in_range : Cert.Pre_lens_in_range.Facts),
    quiescent_Kernel (hKernel := hKernel) (hPre_lens_in_range := hPre_lens_in_range)
    ∧ quiescent_KernelIdeal (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ preserves_Kernel_KernelIdeal
    ∧ algebraic_KernelIdeal_ReferenceIdeal (hKernelIdeal := hKernelIdeal) (hReferenceIdeal := hReferenceIdeal) (hPre_lens_in_range := hPre_lens_in_range)
-- ==== Pre_lens_in_range.lean ====
abbrev S16x2048x1024 : Shape := ⟨3, ![16, 2048, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x2048x1024 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 2048#32
  let main_v2 : IVec S16 32 := broadcastInDim S16 ![] bcast_S_S16 main_c_0
  let main_v3 : IVec S16 1 := cmpi .slt main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x2048x1024 : Shape := ⟨3, ![16, 2048, 1024]⟩
abbrev S16 : Shape := ⟨1, ![16]⟩
abbrev S_ : Shape := ⟨0, ![]⟩
abbrev S2 : Shape := ⟨1, ![2]⟩
abbrev S2x1 : Shape := ⟨2, ![2, 1]⟩
abbrev S1x16 : Shape := ⟨2, ![1, 16]⟩
abbrev S2x16 : Shape := ⟨2, ![2, 16]⟩
abbrev S2x16x1 : Shape := ⟨3, ![2, 16, 1]⟩
abbrev S2x16x16 : Shape := ⟨3, ![2, 16, 16]⟩
abbrev S16x1024 : Shape := ⟨2, ![16, 1024]⟩
abbrev S64x512 : Shape := ⟨2, ![64, 512]⟩
abbrev S512 : Shape := ⟨1, ![512]⟩
abbrev S1x1x16 : Shape := ⟨3, ![1, 1, 16]⟩
abbrev S1 : Shape := ⟨1, ![1]⟩
abbrev S1x64x512 : Shape := ⟨3, ![1, 64, 512]⟩
abbrev S1x512 : Shape := ⟨2, ![1, 512]⟩

abbrev nBuf : Table → Nat
  | .hbm => 57
  | .local .scVector .vmem => 4
  | _ => 0

abbrev bufTy : (tb : Table) → Fin (nBuf tb) → BufTy
  | .hbm, ⟨0, _⟩ => ⟨S16x2048x1024, .f32⟩
  | .hbm, ⟨1, _⟩ => ⟨S16, .i32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S2, .i32⟩
  | .hbm, ⟨7, _⟩ => ⟨S2x1, .i32⟩
  | .hbm, ⟨8, _⟩ => ⟨S16, .i32⟩
  | .hbm, ⟨9, _⟩ => ⟨S1x16, .i32⟩
  | .hbm, ⟨10, _⟩ => ⟨S_, .i32⟩
  | .hbm, ⟨11, _⟩ => ⟨S2x1, .i32⟩
  | .hbm, ⟨12, _⟩ => ⟨S2x1, .i32⟩
  | .hbm, ⟨13, _⟩ => ⟨S_, .i32⟩
  | .hbm, ⟨14, _⟩ => ⟨S_, .i32⟩
  | .hbm, ⟨15, _⟩ => ⟨S1x16, .i32⟩
  | .hbm, ⟨16, _⟩ => ⟨S1x16, .i32⟩
  | .hbm, ⟨17, _⟩ => ⟨S1x16, .i32⟩
  | .hbm, ⟨18, _⟩ => ⟨S_, .i32⟩
  | .hbm, ⟨19, _⟩ => ⟨S1x16, .i32⟩
  | .hbm, ⟨20, _⟩ => ⟨S1x16, .i1⟩
  | .hbm, ⟨21, _⟩ => ⟨S1x16, .i32⟩
  | .hbm, ⟨22, _⟩ => ⟨S1x16, .i32⟩
  | .hbm, ⟨23, _⟩ => ⟨S_, .i32⟩
  | .hbm, ⟨24, _⟩ => ⟨S1x16, .i32⟩
  | .hbm, ⟨25, _⟩ => ⟨S1x16, .i1⟩
  | .hbm, ⟨26, _⟩ => ⟨S1x16, .i1⟩
  | .hbm, ⟨27, _⟩ => ⟨S_, .i32⟩
  | .hbm, ⟨28, _⟩ => ⟨S1x16, .i32⟩
  | .hbm, ⟨29, _⟩ => ⟨S1x16, .i32⟩
  | .hbm, ⟨30, _⟩ => ⟨S1x16, .i32⟩
  | .hbm, ⟨31, _⟩ => ⟨S2x16, .i32⟩
  | .hbm, ⟨32, _⟩ => ⟨S2x16, .i32⟩
  | .hbm, ⟨33, _⟩ => ⟨S2x16, .i32⟩
  | .hbm, ⟨34, _⟩ => ⟨S_, .i32⟩
  | .hbm, ⟨35, _⟩ => ⟨S2x16, .i32⟩
  | .hbm, ⟨36, _⟩ => ⟨S2x16, .i1⟩
  | .hbm, ⟨37, _⟩ => ⟨S_, .i32⟩
  | .hbm, ⟨38, _⟩ => ⟨S2x16, .i32⟩
  | .hbm, ⟨39, _⟩ => ⟨S2x16, .i32⟩
  | .hbm, ⟨40, _⟩ => ⟨S2x16, .i32⟩
  | .hbm, ⟨41, _⟩ => ⟨S2x16x1, .i32⟩
  | .hbm, ⟨42, _⟩ => ⟨S2x16, .i32⟩
  | .hbm, ⟨43, _⟩ => ⟨S2x16x1, .i32⟩
  | .hbm, ⟨44, _⟩ => ⟨S2x16x16, .i32⟩
  | .hbm, ⟨45, _⟩ => ⟨S_, .i32⟩
  | .hbm, ⟨46, _⟩ => ⟨S2x16, .i32⟩
  | .hbm, ⟨47, _⟩ => ⟨S2x16, .i1⟩
  | .hbm, ⟨48, _⟩ => ⟨S_, .i32⟩
  | .hbm, ⟨49, _⟩ => ⟨S2x16, .i32⟩
  | .hbm, ⟨50, _⟩ => ⟨S2x16, .i32⟩
  | .hbm, ⟨51, _⟩ => ⟨S2x16, .i32⟩
  | .hbm, ⟨52, _⟩ => ⟨S2x16x1, .i32⟩
  | .hbm, ⟨53, _⟩ => ⟨S2x16, .f32⟩
  | .hbm, ⟨54, _⟩ => ⟨S2x16x1, .f32⟩
  | .hbm, ⟨55, _⟩ => ⟨S2x16x16, .f32⟩
  | .hbm, ⟨56, _⟩ => ⟨S16x1024, .f32⟩
  | .local .scVector .vmem, ⟨0, _⟩ => ⟨S16, .i32⟩
  | .local .scVector .vmem, ⟨1, _⟩ => ⟨S16, .f32⟩
  | .local .scVector .vmem, ⟨2, _⟩ => ⟨S64x512, .f32⟩
  | .local .scVector .vmem, ⟨3, _⟩ => ⟨S512, .f32⟩
  | _, _ => ⟨S16x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_arg0_scv : Ref sig .scVector := ⟨.hbm, 0, rfl⟩
abbrev main_v21_scv : Ref sig .scVector := ⟨.hbm, 44, rfl⟩
abbrev main_v30_scv : Ref sig .scVector := ⟨.hbm, 55, rfl⟩
abbrev main_v31_scv : Ref sig .scVector := ⟨.hbm, 56, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let arg1 : BitVec 32 := BitVec.ofNat 32 (i 1).val
  let c0_i32_55_r0 : BitVec 32 := 0#32
  ![arg0.toNat, arg1.toNat, 0]
@[reducible] def k0_t1_loop (v33 : BitVec 32) : Scf.Loop 32 :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_52 : BitVec 32 := 1#32
  ⟨c0_i32_50, v93, c1_i32_52⟩

def k0_off2 (i : grid0.Coords) (v33 : BitVec 32) (k0_t1 : Fin (k0_t1_loop v33).trips) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v257.toNat, v29.toNat]
@[reducible] def k0_t2_loop (v33 : BitVec 32) (k0_t1 : Fin (k0_t1_loop v33).trips) : Scf.Loop 32 :=
  let c0_i32_57 : BitVec 32 := 0#32
  let c64_i32_56 : BitVec 32 := 64#32
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_59 : BitVec 32 := 1#32
  ⟨c0_i32_57, v265, c1_i32_59⟩
def k0_off3 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v269 : Index := Scalar.indexCast v268
  let c0_61 : Index := 0#32
  ![v269.toNat, 0]
def k0_off4 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v273 : Index := Scalar.indexCast v268
  let c16_62 : Index := 16#32
  ![v273.toNat, 16]
def k0_off5 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v277 : Index := Scalar.indexCast v268
  let c32_63 : Index := 32#32
  ![v277.toNat, 32]
def k0_off6 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v281 : Index := Scalar.indexCast v268
  let c48_64 : Index := 48#32
  ![v281.toNat, 48]
def k0_off7 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v285 : Index := Scalar.indexCast v268
  let c64_65 : Index := 64#32
  ![v285.toNat, 64]
def k0_off8 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v289 : Index := Scalar.indexCast v268
  let c80_66 : Index := 80#32
  ![v289.toNat, 80]
def k0_off9 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v293 : Index := Scalar.indexCast v268
  let c96_67 : Index := 96#32
  ![v293.toNat, 96]
def k0_off10 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v297 : Index := Scalar.indexCast v268
  let c112_68 : Index := 112#32
  ![v297.toNat, 112]
def k0_off11 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v301 : Index := Scalar.indexCast v268
  let c128_69 : Index := 128#32
  ![v301.toNat, 128]
def k0_off12 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v305 : Index := Scalar.indexCast v268
  let c144_70 : Index := 144#32
  ![v305.toNat, 144]
def k0_off13 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v309 : Index := Scalar.indexCast v268
  let c160_71 : Index := 160#32
  ![v309.toNat, 160]
def k0_off14 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v313 : Index := Scalar.indexCast v268
  let c176_72 : Index := 176#32
  ![v313.toNat, 176]
def k0_off15 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v317 : Index := Scalar.indexCast v268
  let c192_73 : Index := 192#32
  ![v317.toNat, 192]
def k0_off16 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v321 : Index := Scalar.indexCast v268
  let c208_74 : Index := 208#32
  ![v321.toNat, 208]
def k0_off17 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v325 : Index := Scalar.indexCast v268
  let c224_75 : Index := 224#32
  ![v325.toNat, 224]
def k0_off18 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v329 : Index := Scalar.indexCast v268
  let c240_76 : Index := 240#32
  ![v329.toNat, 240]
def k0_off19 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v333 : Index := Scalar.indexCast v268
  let c256_77 : Index := 256#32
  ![v333.toNat, 256]
def k0_off20 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v337 : Index := Scalar.indexCast v268
  let c272_78 : Index := 272#32
  ![v337.toNat, 272]
def k0_off21 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v341 : Index := Scalar.indexCast v268
  let c288_79 : Index := 288#32
  ![v341.toNat, 288]
def k0_off22 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v345 : Index := Scalar.indexCast v268
  let c304_80 : Index := 304#32
  ![v345.toNat, 304]
def k0_off23 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v349 : Index := Scalar.indexCast v268
  let c320_81 : Index := 320#32
  ![v349.toNat, 320]
def k0_off24 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v353 : Index := Scalar.indexCast v268
  let c336_82 : Index := 336#32
  ![v353.toNat, 336]
def k0_off25 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v357 : Index := Scalar.indexCast v268
  let c352_83 : Index := 352#32
  ![v357.toNat, 352]
def k0_off26 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v361 : Index := Scalar.indexCast v268
  let c368_84 : Index := 368#32
  ![v361.toNat, 368]
def k0_off27 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v365 : Index := Scalar.indexCast v268
  let c384_85 : Index := 384#32
  ![v365.toNat, 384]
def k0_off28 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v369 : Index := Scalar.indexCast v268
  let c400_86 : Index := 400#32
  ![v369.toNat, 400]
def k0_off29 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v373 : Index := Scalar.indexCast v268
  let c416_87 : Index := 416#32
  ![v373.toNat, 416]
def k0_off30 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v377 : Index := Scalar.indexCast v268
  let c432_88 : Index := 432#32
  ![v377.toNat, 432]
def k0_off31 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v381 : Index := Scalar.indexCast v268
  let c448_89 : Index := 448#32
  ![v381.toNat, 448]
def k0_off32 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v385 : Index := Scalar.indexCast v268
  let c464_90 : Index := 464#32
  ![v385.toNat, 464]
def k0_off33 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v389 : Index := Scalar.indexCast v268
  let c480_91 : Index := 480#32
  ![v389.toNat, 480]
def k0_off34 (v33 : BitVec 32) (k0_t1 : Fin (k0_t1_loop v33).trips) (k0_t2 : Fin (k0_t2_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t2
  let v268 : BitVec 32 := Scalar.addi v258 arg43
  let v393 : Index := Scalar.indexCast v268
  let c496_92 : Index := 496#32
  ![v393.toNat, 496]
@[reducible] def k0_t3_loop (v33 : BitVec 32) (k0_t1 : Fin (k0_t1_loop v33).trips) : Scf.Loop 32 :=
  let c0_i32_57 : BitVec 32 := 0#32
  let c64_i32_56 : BitVec 32 := 64#32
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let v262 : BitVec 32 := Scalar.addi c0_i32_57 v261
  let c1_i32_60 : BitVec 32 := 1#32
  ⟨v265, v262, c1_i32_60⟩
def k0_off35 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v269 : Index := Scalar.indexCast v268
  let c0_61 : Index := 0#32
  ![v269.toNat, 0]
def k0_off36 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v273 : Index := Scalar.indexCast v268
  let c16_62 : Index := 16#32
  ![v273.toNat, 16]
def k0_off37 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v277 : Index := Scalar.indexCast v268
  let c32_63 : Index := 32#32
  ![v277.toNat, 32]
def k0_off38 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v281 : Index := Scalar.indexCast v268
  let c48_64 : Index := 48#32
  ![v281.toNat, 48]
def k0_off39 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v285 : Index := Scalar.indexCast v268
  let c64_65 : Index := 64#32
  ![v285.toNat, 64]
def k0_off40 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v289 : Index := Scalar.indexCast v268
  let c80_66 : Index := 80#32
  ![v289.toNat, 80]
def k0_off41 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v293 : Index := Scalar.indexCast v268
  let c96_67 : Index := 96#32
  ![v293.toNat, 96]
def k0_off42 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v297 : Index := Scalar.indexCast v268
  let c112_68 : Index := 112#32
  ![v297.toNat, 112]
def k0_off43 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v301 : Index := Scalar.indexCast v268
  let c128_69 : Index := 128#32
  ![v301.toNat, 128]
def k0_off44 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v305 : Index := Scalar.indexCast v268
  let c144_70 : Index := 144#32
  ![v305.toNat, 144]
def k0_off45 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v309 : Index := Scalar.indexCast v268
  let c160_71 : Index := 160#32
  ![v309.toNat, 160]
def k0_off46 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v313 : Index := Scalar.indexCast v268
  let c176_72 : Index := 176#32
  ![v313.toNat, 176]
def k0_off47 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v317 : Index := Scalar.indexCast v268
  let c192_73 : Index := 192#32
  ![v317.toNat, 192]
def k0_off48 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v321 : Index := Scalar.indexCast v268
  let c208_74 : Index := 208#32
  ![v321.toNat, 208]
def k0_off49 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v325 : Index := Scalar.indexCast v268
  let c224_75 : Index := 224#32
  ![v325.toNat, 224]
def k0_off50 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v329 : Index := Scalar.indexCast v268
  let c240_76 : Index := 240#32
  ![v329.toNat, 240]
def k0_off51 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v333 : Index := Scalar.indexCast v268
  let c256_77 : Index := 256#32
  ![v333.toNat, 256]
def k0_off52 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v337 : Index := Scalar.indexCast v268
  let c272_78 : Index := 272#32
  ![v337.toNat, 272]
def k0_off53 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v341 : Index := Scalar.indexCast v268
  let c288_79 : Index := 288#32
  ![v341.toNat, 288]
def k0_off54 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v345 : Index := Scalar.indexCast v268
  let c304_80 : Index := 304#32
  ![v345.toNat, 304]
def k0_off55 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v349 : Index := Scalar.indexCast v268
  let c320_81 : Index := 320#32
  ![v349.toNat, 320]
def k0_off56 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v353 : Index := Scalar.indexCast v268
  let c336_82 : Index := 336#32
  ![v353.toNat, 336]
def k0_off57 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v357 : Index := Scalar.indexCast v268
  let c352_83 : Index := 352#32
  ![v357.toNat, 352]
def k0_off58 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v361 : Index := Scalar.indexCast v268
  let c368_84 : Index := 368#32
  ![v361.toNat, 368]
def k0_off59 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v365 : Index := Scalar.indexCast v268
  let c384_85 : Index := 384#32
  ![v365.toNat, 384]
def k0_off60 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v369 : Index := Scalar.indexCast v268
  let c400_86 : Index := 400#32
  ![v369.toNat, 400]
def k0_off61 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v373 : Index := Scalar.indexCast v268
  let c416_87 : Index := 416#32
  ![v373.toNat, 416]
def k0_off62 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v377 : Index := Scalar.indexCast v268
  let c432_88 : Index := 432#32
  ![v377.toNat, 432]
def k0_off63 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v381 : Index := Scalar.indexCast v268
  let c448_89 : Index := 448#32
  ![v381.toNat, 448]
def k0_off64 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v385 : Index := Scalar.indexCast v268
  let c464_90 : Index := 464#32
  ![v385.toNat, 464]
def k0_off65 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v389 : Index := Scalar.indexCast v268
  let c480_91 : Index := 480#32
  ![v389.toNat, 480]
def k0_off66 (v33 : BitVec 32) (k0_t1 : Fin (k0_t1_loop v33).trips) (k0_t3 : Fin (k0_t3_loop v33 k0_t1).trips) : Fin 2 → Nat :=
  let c0_i32_50 : BitVec 32 := 0#32
  let c1_i32_52 : BitVec 32 := 1#32
  let arg10 : BitVec 32 := Scf.iv c0_i32_50 c1_i32_52 k0_t1
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t3
  let v268 : BitVec 32 := Scalar.addi v258 arg43
  let v393 : Index := Scalar.indexCast v268
  let c496_92 : Index := 496#32
  ![v393.toNat, 496]
@[reducible] def k0_t4_loop (v33 : BitVec 32) : Scf.Loop 32 :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let v90 : BitVec 32 := Scalar.addi c0_i32_50 v89
  let c1_i32_53 : BitVec 32 := 1#32
  ⟨v93, v90, c1_i32_53⟩
def k0_off67 (i : grid0.Coords) (v33 : BitVec 32) (k0_t4 : Fin (k0_t4_loop v33).trips) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v257.toNat, v29.toNat]
@[reducible] def k0_t5_loop (v33 : BitVec 32) (k0_t4 : Fin (k0_t4_loop v33).trips) : Scf.Loop 32 :=
  let c0_i32_57 : BitVec 32 := 0#32
  let c64_i32_56 : BitVec 32 := 64#32
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_59 : BitVec 32 := 1#32
  ⟨c0_i32_57, v265, c1_i32_59⟩
def k0_off68 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v269 : Index := Scalar.indexCast v268
  let c0_61 : Index := 0#32
  ![v269.toNat, 0]
def k0_off69 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v273 : Index := Scalar.indexCast v268
  let c16_62 : Index := 16#32
  ![v273.toNat, 16]
def k0_off70 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v277 : Index := Scalar.indexCast v268
  let c32_63 : Index := 32#32
  ![v277.toNat, 32]
def k0_off71 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v281 : Index := Scalar.indexCast v268
  let c48_64 : Index := 48#32
  ![v281.toNat, 48]
def k0_off72 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v285 : Index := Scalar.indexCast v268
  let c64_65 : Index := 64#32
  ![v285.toNat, 64]
def k0_off73 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v289 : Index := Scalar.indexCast v268
  let c80_66 : Index := 80#32
  ![v289.toNat, 80]
def k0_off74 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v293 : Index := Scalar.indexCast v268
  let c96_67 : Index := 96#32
  ![v293.toNat, 96]
def k0_off75 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v297 : Index := Scalar.indexCast v268
  let c112_68 : Index := 112#32
  ![v297.toNat, 112]
def k0_off76 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v301 : Index := Scalar.indexCast v268
  let c128_69 : Index := 128#32
  ![v301.toNat, 128]
def k0_off77 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v305 : Index := Scalar.indexCast v268
  let c144_70 : Index := 144#32
  ![v305.toNat, 144]
def k0_off78 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v309 : Index := Scalar.indexCast v268
  let c160_71 : Index := 160#32
  ![v309.toNat, 160]
def k0_off79 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v313 : Index := Scalar.indexCast v268
  let c176_72 : Index := 176#32
  ![v313.toNat, 176]
def k0_off80 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v317 : Index := Scalar.indexCast v268
  let c192_73 : Index := 192#32
  ![v317.toNat, 192]
def k0_off81 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v321 : Index := Scalar.indexCast v268
  let c208_74 : Index := 208#32
  ![v321.toNat, 208]
def k0_off82 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v325 : Index := Scalar.indexCast v268
  let c224_75 : Index := 224#32
  ![v325.toNat, 224]
def k0_off83 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v329 : Index := Scalar.indexCast v268
  let c240_76 : Index := 240#32
  ![v329.toNat, 240]
def k0_off84 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v333 : Index := Scalar.indexCast v268
  let c256_77 : Index := 256#32
  ![v333.toNat, 256]
def k0_off85 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v337 : Index := Scalar.indexCast v268
  let c272_78 : Index := 272#32
  ![v337.toNat, 272]
def k0_off86 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v341 : Index := Scalar.indexCast v268
  let c288_79 : Index := 288#32
  ![v341.toNat, 288]
def k0_off87 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v345 : Index := Scalar.indexCast v268
  let c304_80 : Index := 304#32
  ![v345.toNat, 304]
def k0_off88 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v349 : Index := Scalar.indexCast v268
  let c320_81 : Index := 320#32
  ![v349.toNat, 320]
def k0_off89 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v353 : Index := Scalar.indexCast v268
  let c336_82 : Index := 336#32
  ![v353.toNat, 336]
def k0_off90 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v357 : Index := Scalar.indexCast v268
  let c352_83 : Index := 352#32
  ![v357.toNat, 352]
def k0_off91 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v361 : Index := Scalar.indexCast v268
  let c368_84 : Index := 368#32
  ![v361.toNat, 368]
def k0_off92 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v365 : Index := Scalar.indexCast v268
  let c384_85 : Index := 384#32
  ![v365.toNat, 384]
def k0_off93 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v369 : Index := Scalar.indexCast v268
  let c400_86 : Index := 400#32
  ![v369.toNat, 400]
def k0_off94 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v373 : Index := Scalar.indexCast v268
  let c416_87 : Index := 416#32
  ![v373.toNat, 416]
def k0_off95 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v377 : Index := Scalar.indexCast v268
  let c432_88 : Index := 432#32
  ![v377.toNat, 432]
def k0_off96 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v381 : Index := Scalar.indexCast v268
  let c448_89 : Index := 448#32
  ![v381.toNat, 448]
def k0_off97 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v385 : Index := Scalar.indexCast v268
  let c464_90 : Index := 464#32
  ![v385.toNat, 464]
def k0_off98 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v389 : Index := Scalar.indexCast v268
  let c480_91 : Index := 480#32
  ![v389.toNat, 480]
def k0_off99 (v33 : BitVec 32) (k0_t4 : Fin (k0_t4_loop v33).trips) (k0_t5 : Fin (k0_t5_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c1_i32_59 : BitVec 32 := 1#32
  let arg43 : BitVec 32 := Scf.iv c0_i32_57 c1_i32_59 k0_t5
  let v268 : BitVec 32 := Scalar.addi v258 arg43
  let v393 : Index := Scalar.indexCast v268
  let c496_92 : Index := 496#32
  ![v393.toNat, 496]
@[reducible] def k0_t6_loop (v33 : BitVec 32) (k0_t4 : Fin (k0_t4_loop v33).trips) : Scf.Loop 32 :=
  let c0_i32_57 : BitVec 32 := 0#32
  let c64_i32_56 : BitVec 32 := 64#32
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let v262 : BitVec 32 := Scalar.addi c0_i32_57 v261
  let c1_i32_60 : BitVec 32 := 1#32
  ⟨v265, v262, c1_i32_60⟩
def k0_off100 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v269 : Index := Scalar.indexCast v268
  let c0_61 : Index := 0#32
  ![v269.toNat, 0]
def k0_off101 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v273 : Index := Scalar.indexCast v268
  let c16_62 : Index := 16#32
  ![v273.toNat, 16]
def k0_off102 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v277 : Index := Scalar.indexCast v268
  let c32_63 : Index := 32#32
  ![v277.toNat, 32]
def k0_off103 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v281 : Index := Scalar.indexCast v268
  let c48_64 : Index := 48#32
  ![v281.toNat, 48]
def k0_off104 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v285 : Index := Scalar.indexCast v268
  let c64_65 : Index := 64#32
  ![v285.toNat, 64]
def k0_off105 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v289 : Index := Scalar.indexCast v268
  let c80_66 : Index := 80#32
  ![v289.toNat, 80]
def k0_off106 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v293 : Index := Scalar.indexCast v268
  let c96_67 : Index := 96#32
  ![v293.toNat, 96]
def k0_off107 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v297 : Index := Scalar.indexCast v268
  let c112_68 : Index := 112#32
  ![v297.toNat, 112]
def k0_off108 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v301 : Index := Scalar.indexCast v268
  let c128_69 : Index := 128#32
  ![v301.toNat, 128]
def k0_off109 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v305 : Index := Scalar.indexCast v268
  let c144_70 : Index := 144#32
  ![v305.toNat, 144]
def k0_off110 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v309 : Index := Scalar.indexCast v268
  let c160_71 : Index := 160#32
  ![v309.toNat, 160]
def k0_off111 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v313 : Index := Scalar.indexCast v268
  let c176_72 : Index := 176#32
  ![v313.toNat, 176]
def k0_off112 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v317 : Index := Scalar.indexCast v268
  let c192_73 : Index := 192#32
  ![v317.toNat, 192]
def k0_off113 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v321 : Index := Scalar.indexCast v268
  let c208_74 : Index := 208#32
  ![v321.toNat, 208]
def k0_off114 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v325 : Index := Scalar.indexCast v268
  let c224_75 : Index := 224#32
  ![v325.toNat, 224]
def k0_off115 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v329 : Index := Scalar.indexCast v268
  let c240_76 : Index := 240#32
  ![v329.toNat, 240]
def k0_off116 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v333 : Index := Scalar.indexCast v268
  let c256_77 : Index := 256#32
  ![v333.toNat, 256]
def k0_off117 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v337 : Index := Scalar.indexCast v268
  let c272_78 : Index := 272#32
  ![v337.toNat, 272]
def k0_off118 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v341 : Index := Scalar.indexCast v268
  let c288_79 : Index := 288#32
  ![v341.toNat, 288]
def k0_off119 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v345 : Index := Scalar.indexCast v268
  let c304_80 : Index := 304#32
  ![v345.toNat, 304]
def k0_off120 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v349 : Index := Scalar.indexCast v268
  let c320_81 : Index := 320#32
  ![v349.toNat, 320]
def k0_off121 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v353 : Index := Scalar.indexCast v268
  let c336_82 : Index := 336#32
  ![v353.toNat, 336]
def k0_off122 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v357 : Index := Scalar.indexCast v268
  let c352_83 : Index := 352#32
  ![v357.toNat, 352]
def k0_off123 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v361 : Index := Scalar.indexCast v268
  let c368_84 : Index := 368#32
  ![v361.toNat, 368]
def k0_off124 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v365 : Index := Scalar.indexCast v268
  let c384_85 : Index := 384#32
  ![v365.toNat, 384]
def k0_off125 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v369 : Index := Scalar.indexCast v268
  let c400_86 : Index := 400#32
  ![v369.toNat, 400]
def k0_off126 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v373 : Index := Scalar.indexCast v268
  let c416_87 : Index := 416#32
  ![v373.toNat, 416]
def k0_off127 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v377 : Index := Scalar.indexCast v268
  let c432_88 : Index := 432#32
  ![v377.toNat, 432]
def k0_off128 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v381 : Index := Scalar.indexCast v268
  let c448_89 : Index := 448#32
  ![v381.toNat, 448]
def k0_off129 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v385 : Index := Scalar.indexCast v268
  let c464_90 : Index := 464#32
  ![v385.toNat, 464]
def k0_off130 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v389 : Index := Scalar.indexCast v268
  let c480_91 : Index := 480#32
  ![v389.toNat, 480]
def k0_off131 (v33 : BitVec 32) (k0_t4 : Fin (k0_t4_loop v33).trips) (k0_t6 : Fin (k0_t6_loop v33 k0_t4).trips) : Fin 2 → Nat :=
  let c0_i32_50 : BitVec 32 := 0#32
  let c64_i32 : BitVec 32 := 64#32
  let v38 : BitVec 32 := Scalar.addi v33 c64_i32
  let c1_i32_11 : BitVec 32 := 1#32
  let v39 : BitVec 32 := Scalar.subi v38 c1_i32_11
  let c0_i32_13 : BitVec 32 := 0#32
  let v41 : BitVec 1 := Scalar.cmpi .sgt v39 c0_i32_13
  let v42 : BitVec 32 := Scalar.extui v41
  let c0_i32_14 : BitVec 32 := 0#32
  let v43 : BitVec 1 := Scalar.cmpi .slt v39 c0_i32_14
  let v44 : BitVec 32 := Scalar.extui v43
  let v45 : BitVec 32 := Scalar.subi v42 v44
  let c64_i32_12 : BitVec 32 := 64#32
  let c0_i32_15 : BitVec 32 := 0#32
  let v46 : BitVec 1 := Scalar.cmpi .sgt c64_i32_12 c0_i32_15
  let v47 : BitVec 32 := Scalar.extui v46
  let c0_i32_16 : BitVec 32 := 0#32
  let v48 : BitVec 1 := Scalar.cmpi .slt c64_i32_12 c0_i32_16
  let v49 : BitVec 32 := Scalar.extui v48
  let v50 : BitVec 32 := Scalar.subi v47 v49
  let v51 : BitVec 1 := Scalar.cmpi .ne v45 v50
  let v52 : BitVec 32 := Scalar.remsi v39 c64_i32_12
  let c0_i32_17 : BitVec 32 := 0#32
  let v53 : BitVec 1 := Scalar.cmpi .ne v52 c0_i32_17
  let v54 : BitVec 1 := Scalar.andi v51 v53
  let v40 : BitVec 32 := Scalar.divsi v39 c64_i32_12
  let c1_i32_18 : BitVec 32 := 1#32
  let v55 : BitVec 32 := Scalar.subi v40 c1_i32_18
  let v56 : BitVec 32 := Scalar.select v54 v55 v40
  let v89 : BitVec 32 := Scalar.subi v56 c0_i32_50
  let c1_i32_51 : BitVec 32 := 1#32
  let v91 : BitVec 32 := Scalar.divsi v89 c1_i32_51
  let v92 : BitVec 32 := Scalar.muli v91 c1_i32_51
  let v93 : BitVec 32 := Scalar.addi c0_i32_50 v92
  let c1_i32_53 : BitVec 32 := 1#32
  let arg10 : BitVec 32 := Scf.iv v93 c1_i32_53 k0_t4
  let c64_i32_55 : BitVec 32 := 64#32
  let v256 : BitVec 32 := Scalar.muli arg10 c64_i32_55
  let c1984_i32 : BitVec 32 := 1984#32
  let v257 : BitVec 32 := Scalar.minsi v256 c1984_i32
  let v258 : BitVec 32 := Scalar.subi v256 v257
  let c0_i32_57 : BitVec 32 := 0#32
  let c64_i32_56 : BitVec 32 := 64#32
  let v259 : BitVec 32 := Scalar.subi v33 v256
  let v260 : BitVec 32 := Scalar.minsi c64_i32_56 v259
  let v261 : BitVec 32 := Scalar.subi v260 c0_i32_57
  let c1_i32_58 : BitVec 32 := 1#32
  let v263 : BitVec 32 := Scalar.divsi v261 c1_i32_58
  let v264 : BitVec 32 := Scalar.muli v263 c1_i32_58
  let v265 : BitVec 32 := Scalar.addi c0_i32_57 v264
  let c1_i32_60 : BitVec 32 := 1#32
  let arg43 : BitVec 32 := Scf.iv v265 c1_i32_60 k0_t6
  let v268 : BitVec 32 := Scalar.addi v258 arg43
  let v393 : Index := Scalar.indexCast v268
  let c496_92 : Index := 496#32
  ![v393.toNat, 496]

def k0_chk1_0 (i : grid0.Coords) (v33 : BitVec 32) : Prop :=
  ((k0_t1_loop v33).OK) ∧
  (∀ k0_t1 : Fin (k0_t1_loop v33).trips, ∀ a, (k0_off2 i v33 k0_t1) a + S1x64x512.size a ≤ S16x2048x1024.size a) ∧
  (∀ k0_t1 : Fin (k0_t1_loop v33).trips, (k0_t2_loop v33 k0_t1).OK) ∧
  (∀ (k0_t1 : Fin (k0_t1_loop v33).trips) (k0_t2 : Fin (k0_t2_loop v33 k0_t1).trips), ∀ a, (k0_off3 v33 k0_t1 k0_t2) a + S1x16.size a ≤ S64x512.size a) ∧
  (∀ (k0_t1 : Fin (k0_t1_loop v33).trips) (k0_t2 : Fin (k0_t2_loop v33 k0_t1).trips), ∀ a, (k0_off4 v33 k0_t1 k0_t2) a + S1x16.size a ≤ S64x512.size a) ∧
  (∀ (k0_t1 : Fin (k0_t1_loop v33).trips) (k0_t2 : Fin (k0_t2_loop v33 k0_t1).trips), ∀ a, (k0_off5 v33 k0_t1 k0_t2) a + S1x16.size a ≤ S64x512.size a) ∧
  (∀ (k0_t1 : Fin (k0_t1_loop v33).trips) (k0_t2 : Fin (k0_t2_loop v33 k0_t1).trips), ∀ a, (k0_off6 v33 k0_t1 k0_t2) a + S1x16.size a ≤ S64x512.size a) ∧
  (∀ (k0_t1 : Fin (k0_t1_loop v33).trips) (k0_t2 : Fin (k0_t2_loop v33 k0_t1).trips), ∀ a, (k0_off7 v33 k0_t1 k0_t2) a + S1x16.size a ≤ S64x512.size a) ∧
  (∀ (k0_t1 : Fin (k0_t1_loop v33).trips) (k0_t2 : Fin (k0_t2_loop v33 k0_t1).trips), ∀ a, (k0_off8 v33 k0_t1 k0_t2) a + S1x16.size a ≤ S64x512.size a) ∧
  (∀ (k0_t1 : Fin (k0_t1_loop v33).trips) (k0_t2 : Fin (k0_t2_loop v33 k0_t1).trips), ∀ a, (k0_off9 v33 k0_t1 k0_t2) a + S1x16.size a ≤ S64x512.size a) ∧
  (∀ (k0_t1 : Fin (k0_t1_loop v33).trips) (k0_t2 : Fin (k0_t2_loop v33 k0_t1).trips), ∀ a, (k0_off10 v33 k0_t1 k0_t2) a + S1x16.size a ≤ S64x512.size a) ∧
  (∀ (k0_t1 : Fin (k0_t1_loop v33).trips) (k0_t2 : Fin (k0_t2_loop v33 k0_t1).trips), ∀ a, (k0_off11 v33 k0_t1 k0_t2) a + S1x16.size a ≤ S64x512.size a) ∧
  (∀ (k0_t1 : Fin (k0_t1_loop v33).trips) (k0_t2 : Fin (k0_t2_loop v33 k0_t1).trips), ∀ a, (k0_off12 v33 k0_t1 k0_t2) a + S1x16.size a ≤ S64x512.size a) ∧
  (∀ (k0_t1 : Fin (k0_t1_loop v33).trips) (k0_t2 : Fin (k0_t2_loop v33 k0_t1).trips), ∀ a, (k0_off13 v33 k0_t1 k0_t2) a + S1x16.size a ≤ S64x512.size a) ∧
  (∀ (k0_t1 : Fin (k0_t1_loop v33).trips) (k0_t2 : Fin (k0_t2_loop v33 k0_t1).trips), ∀ a, (k0_off14 v33 k0_t1 k0_t2) a + S1x16.size a ≤ S64x512.size a) ∧
  (∀ (k0_t1 : Fin (k0_t1_loop v33).trips) (k0_t2 : Fin (k0_t2_loop v33 k0_t1).trips), ∀ a, (k0_off15 v33 k0_t1 k0_t2) a + S1x16.size a ≤ S64x512.size a) ∧
  (∀ (k0_t1 : Fin (k0_t1_loop v33).trips) (k0_t2 : Fin (k0_t2_loop v33 k0_t1).trips), ∀ a, (k0_off16 v33 k0_t1 k0_t2) a + S1x16.size a ≤ S64x512.size a) ∧
  (∀ (k0_t1 : Fin (k0_t1_loop v33).trips) (k0_t2 : Fin (k0_t2_loop v33 k0_t1).trips), ∀ a, (k0_off17 v33 k0_t1 k0_t2) a + S1x16.size a ≤ S64x512.size a) ∧
  (∀ (k0_t1 : Fin (k0_t1_loop v33).trips) (k0_t2 : Fin (k0_t2_loop v33 k0_t1).trips), ∀ a, (k0_off18 v33 k0_t1 k0_t2) a + S1x16.size a ≤ S64x512.size a) ∧
  (∀ (k0_t1 : Fin (k0_t1_loop v33).trips) (k0_t2 : Fin (k0_t2_loop v33 k0_t1).trips), ∀ a, (k0_off19 v33 k0_t1 k0_t2) a + S1x16.size a ≤ S64x512.size a) ∧
  (∀ (k0_t1 : Fin (k0_t1_loop v33).trips) (k0_t2 : Fin (k0_t2_loop v33 k0_t1).trips), ∀ a, (k0_off20 v33 k0_t1 k0_t2) a + S1x16.size a ≤ S64x512.size a) ∧
  (∀ (k0_t1 : Fin (k0_t1_loop v33).trips) (k0_t2 : Fin (k0_t2_loop v33 k0_t1).trips), ∀ a, (k0_off21 v33 k0_t1 k0_t2) a + S1x16.size a ≤ S64x512.size a) ∧
  (∀ (k0_t1 : Fin (k0_t1_loop v33).trips) (k0_t2 : Fin (k0_t2_loop v33 k0_t1).trips), ∀ a, (k0_off22 v33 k0_t1 k0_t2) a + S1x16.size a ≤ S64x512.size a) ∧
  (∀ (k0_t1 : Fin (k0_t1_loop v33).trips) (k0_t2 : Fin (k0_t2_loop v33 k0_t1).trips), ∀ a, (k0_off23 v33 k0_t1 k0_t2) a + S1x16.size a ≤ S64x512.size a) ∧
  (∀ (k0_t1 : Fin (k0_t1_loop v33).trips) (k0_t2 : Fin (k0_t2_loop v33 k0_t1).trips), ∀ a, (k0_off24 v33 k0_t1 k0_t2) a + S1x16.size a ≤ S64x512.size a) ∧
  (∀ (k0_t1 : Fin (k0_t1_loop v33).trips) (k0_t2 : Fin (k0_t2_loop v33 k0_t1).trips), ∀ a, (k0_off25 v33 k0_t1 k0_t2) a + S1x16.size a ≤ S64x512.size a) ∧
  (∀ (k0_t1 : Fin (k0_t1_loop v33).trips) (k0_t2 : Fin (k0_t2_loop v33 k0_t1).trips), ∀ a, (k0_off26 v33 k0_t1 k0_t2) a + S1x16.size a ≤ S64x512.size a) ∧
  (∀ (k0_t1 : Fin (k0_t1_loop v33).trips) (k0_t2 : Fin (k0_t2_loop v33 k0_t1).trips), ∀ a, (k0_off27 v33 k0_t1 k0_t2) a + S1x16.size a ≤ S64x512.size a) ∧
  (∀ (k0_t1 : Fin (k0_t1_loop v33).trips) (k0_t2 : Fin (k0_t2_loop v33 k0_t1).trips), ∀ a, (k0_off28 v33 k0_t1 k0_t2) a + S1x16.size a ≤ S64x512.size a) ∧
  (∀ (k0_t1 : Fin (k0_t1_loop v33).trips) (k0_t2 : Fin (k0_t2_loop v33 k0_t1).trips), ∀ a, (k0_off29 v33 k0_t1 k0_t2) a + S1x16.size a ≤ S64x512.size a) ∧
  (∀ (k0_t1 : Fin (k0_t1_loop v33).trips) (k0_t2 : Fin (k0_t2_loop v33 k0_t1).trips), ∀ a, (k0_off30 v33 k0_t1 k0_t2) a + S1x16.size a ≤ S64x512.size a) ∧
  (∀ (k0_t1 : Fin (k0_t1_loop v33).trips) (k0_t2 : Fin (k0_t2_loop v33 k0_t1).trips), ∀ a, (k0_off31 v33 k0_t1 k0_t2) a + S1x16.size a ≤ S64x512.size a)
def k0_chk1_1 (i : grid0.Coords) (v33 : BitVec 32) : Prop :=
  (∀ (k0_t1 : Fin (k0_t1_loop v33).trips) (k0_t2 : Fin (k0_t2_loop v33 k0_t1).trips), ∀ a, (k0_off32 v33 k0_t1 k0_t2) a + S1x16.size a ≤ S64x512.size a) ∧
  (∀ (k0_t1 : Fin (k0_t1_loop v33).trips) (k0_t2 : Fin (k0_t2_loop v33 k0_t1).trips), ∀ a, (k0_off33 v33 k0_t1 k0_t2) a + S1x16.size a ≤ S64x512.size a) ∧
  (∀ (k0_t1 : Fin (k0_t1_loop v33).trips) (k0_t2 : Fin (k0_t2_loop v33 k0_t1).trips), ∀ a, (k0_off34 v33 k0_t1 k0_t2) a + S1x16.size a ≤ S64x512.size a) ∧
  (∀ k0_t1 : Fin (k0_t1_loop v33).trips, (k0_t3_loop v33 k0_t1).OK) ∧
  (∀ (k0_t1 : Fin (k0_t1_loop v33).trips) (k0_t3 : Fin (k0_t3_loop v33 k0_t1).trips), ∀ a, (k0_off35 v33 k0_t1 k0_t3) a + S1x16.size a ≤ S64x512.size a) ∧
  (∀ (k0_t1 : Fin (k0_t1_loop v33).trips) (k0_t3 : Fin (k0_t3_loop v33 k0_t1).trips), ∀ a, (k0_off36 v33 k0_t1 k0_t3) a + S1x16.size a ≤ S64x512.size a) ∧
  (∀ (k0_t1 : Fin (k0_t1_loop v33).trips) (k0_t3 : Fin (k0_t3_loop v33 k0_t1).trips), ∀ a, (k0_off37 v33 k0_t1 k0_t3) a + S1x16.size a ≤ S64x512.size a) ∧
  (∀ (k0_t1 : Fin (k0_t1_loop v33).trips) (k0_t3 : Fin (k0_t3_loop v33 k0_t1).trips), ∀ a, (k0_off38 v33 k0_t1 k0_t3) a + S1x16.size a ≤ S64x512.size a) ∧
  (∀ (k0_t1 : Fin (k0_t1_loop v33).trips) (k0_t3 : Fin (k0_t3_loop v33 k0_t1).trips), ∀ a, (k0_off39 v33 k0_t1 k0_t3) a + S1x16.size a ≤ S64x512.size a) ∧
  (∀ (k0_t1 : Fin (k0_t1_loop v33).trips) (k0_t3 : Fin (k0_t3_loop v33 k0_t1).trips), ∀ a, (k0_off40 v33 k0_t1 k0_t3) a + S1x16.size a ≤ S64x512.size a) ∧
  (∀ (k0_t1 : Fin (k0_t1_loop v33).trips) (k0_t3 : Fin (k0_t3_loop v33 k0_t1).trips), ∀ a, (k0_off41 v33 k0_t1 k0_t3) a + S1x16.size a ≤ S64x512.size a) ∧
  (∀ (k0_t1 : Fin (k0_t1_loop v33).trips) (k0_t3 : Fin (k0_t3_loop v33 k0_t1).trips), ∀ a, (k0_off42 v33 k0_t1 k0_t3) a + S1x16.size a ≤ S64x512.size a) ∧
  (∀ (k0_t1 : Fin (k0_t1_loop v33).trips) (k0_t3 : Fin (k0_t3_loop v33 k0_t1).trips), ∀ a, (k0_off43 v33 k0_t1 k0_t3) a + S1x16.size a ≤ S64x512.size a) ∧
  (∀ (k0_t1 : Fin (k0_t1_loop v33).trips) (k0_t3 : Fin (k0_t3_loop v33 k0_t1).trips), ∀ a, (k0_off44 v33 k0_t1 k0_t3) a + S1x16.size a ≤ S64x512.size a) ∧
  (∀ (k0_t1 : Fin (k0_t1_loop v33).trips) (k0_t3 : Fin (k0_t3_loop v33 k0_t1).trips), ∀ a, (k0_off45 v33 k0_t1 k0_t3) a + S1x16.size a ≤ S64x512.size a) ∧
  (∀ (k0_t1 : Fin (k0_t1_loop v33).trips) (k0_t3 : Fin (k0_t3_loop v33 k0_t1).trips), ∀ a, (k0_off46 v33 k0_t1 k0_t3) a + S1x16.size a ≤ S64x512.size a) ∧
  (∀ (k0_t1 : Fin (k0_t1_loop v33).trips) (k0_t3 : Fin (k0_t3_loop v33 k0_t1).trips), ∀ a, (k0_off47 v33 k0_t1 k0_t3) a + S1x16.size a ≤ S64x512.size a) ∧
  (∀ (k0_t1 : Fin (k0_t1_loop v33).trips) (k0_t3 : Fin (k0_t3_loop v33 k0_t1).trips), ∀ a, (k0_off48 v33 k0_t1 k0_t3) a + S1x16.size a ≤ S64x512.size a) ∧
  (∀ (k0_t1 : Fin (k0_t1_loop v33).trips) (k0_t3 : Fin (k0_t3_loop v33 k0_t1).trips), ∀ a, (k0_off49 v33 k0_t1 k0_t3) a + S1x16.size a ≤ S64x512.size a) ∧
  (∀ (k0_t1 : Fin (k0_t1_loop v33).trips) (k0_t3 : Fin (k0_t3_loop v33 k0_t1).trips), ∀ a, (k0_off50 v33 k0_t1 k0_t3) a + S1x16.size a ≤ S64x512.size a) ∧
  (∀ (k0_t1 : Fin (k0_t1_loop v33).trips) (k0_t3 : Fin (k0_t3_loop v33 k0_t1).trips), ∀ a, (k0_off51 v33 k0_t1 k0_t3) a + S1x16.size a ≤ S64x512.size a) ∧
  (∀ (k0_t1 : Fin (k0_t1_loop v33).trips) (k0_t3 : Fin (k0_t3_loop v33 k0_t1).trips), ∀ a, (k0_off52 v33 k0_t1 k0_t3) a + S1x16.size a ≤ S64x512.size a) ∧
  (∀ (k0_t1 : Fin (k0_t1_loop v33).trips) (k0_t3 : Fin (k0_t3_loop v33 k0_t1).trips), ∀ a, (k0_off53 v33 k0_t1 k0_t3) a + S1x16.size a ≤ S64x512.size a) ∧
  (∀ (k0_t1 : Fin (k0_t1_loop v33).trips) (k0_t3 : Fin (k0_t3_loop v33 k0_t1).trips), ∀ a, (k0_off54 v33 k0_t1 k0_t3) a + S1x16.size a ≤ S64x512.size a) ∧
  (∀ (k0_t1 : Fin (k0_t1_loop v33).trips) (k0_t3 : Fin (k0_t3_loop v33 k0_t1).trips), ∀ a, (k0_off55 v33 k0_t1 k0_t3) a + S1x16.size a ≤ S64x512.size a) ∧
  (∀ (k0_t1 : Fin (k0_t1_loop v33).trips) (k0_t3 : Fin (k0_t3_loop v33 k0_t1).trips), ∀ a, (k0_off56 v33 k0_t1 k0_t3) a + S1x16.size a ≤ S64x512.size a) ∧
  (∀ (k0_t1 : Fin (k0_t1_loop v33).trips) (k0_t3 : Fin (k0_t3_loop v33 k0_t1).trips), ∀ a, (k0_off57 v33 k0_t1 k0_t3) a + S1x16.size a ≤ S64x512.size a) ∧
  (∀ (k0_t1 : Fin (k0_t1_loop v33).trips) (k0_t3 : Fin (k0_t3_loop v33 k0_t1).trips), ∀ a, (k0_off58 v33 k0_t1 k0_t3) a + S1x16.size a ≤ S64x512.size a) ∧
  (∀ (k0_t1 : Fin (k0_t1_loop v33).trips) (k0_t3 : Fin (k0_t3_loop v33 k0_t1).trips), ∀ a, (k0_off59 v33 k0_t1 k0_t3) a + S1x16.size a ≤ S64x512.size a) ∧
  (∀ (k0_t1 : Fin (k0_t1_loop v33).trips) (k0_t3 : Fin (k0_t3_loop v33 k0_t1).trips), ∀ a, (k0_off60 v33 k0_t1 k0_t3) a + S1x16.size a ≤ S64x512.size a) ∧
  (∀ (k0_t1 : Fin (k0_t1_loop v33).trips) (k0_t3 : Fin (k0_t3_loop v33 k0_t1).trips), ∀ a, (k0_off61 v33 k0_t1 k0_t3) a + S1x16.size a ≤ S64x512.size a) ∧
  (∀ (k0_t1 : Fin (k0_t1_loop v33).trips) (k0_t3 : Fin (k0_t3_loop v33 k0_t1).trips), ∀ a, (k0_off62 v33 k0_t1 k0_t3) a + S1x16.size a ≤ S64x512.size a)
def k0_chk1_2 (i : grid0.Coords) (v33 : BitVec 32) : Prop :=
  (∀ (k0_t1 : Fin (k0_t1_loop v33).trips) (k0_t3 : Fin (k0_t3_loop v33 k0_t1).trips), ∀ a, (k0_off63 v33 k0_t1 k0_t3) a + S1x16.size a ≤ S64x512.size a) ∧
  (∀ (k0_t1 : Fin (k0_t1_loop v33).trips) (k0_t3 : Fin (k0_t3_loop v33 k0_t1).trips), ∀ a, (k0_off64 v33 k0_t1 k0_t3) a + S1x16.size a ≤ S64x512.size a) ∧
  (∀ (k0_t1 : Fin (k0_t1_loop v33).trips) (k0_t3 : Fin (k0_t3_loop v33 k0_t1).trips), ∀ a, (k0_off65 v33 k0_t1 k0_t3) a + S1x16.size a ≤ S64x512.size a) ∧
  (∀ (k0_t1 : Fin (k0_t1_loop v33).trips) (k0_t3 : Fin (k0_t3_loop v33 k0_t1).trips), ∀ a, (k0_off66 v33 k0_t1 k0_t3) a + S1x16.size a ≤ S64x512.size a) ∧
  ((k0_t4_loop v33).OK) ∧
  (∀ k0_t4 : Fin (k0_t4_loop v33).trips, ∀ a, (k0_off67 i v33 k0_t4) a + S1x64x512.size a ≤ S16x2048x1024.size a) ∧
  (∀ k0_t4 : Fin (k0_t4_loop v33).trips, (k0_t5_loop v33 k0_t4).OK) ∧
  (∀ (k0_t4 : Fin (k0_t4_loop v33).trips) (k0_t5 : Fin (k0_t5_loop v33 k0_t4).trips), ∀ a, (k0_off68 v33 k0_t4 k0_t5) a + S1x16.size a ≤ S64x512.size a) ∧
  (∀ (k0_t4 : Fin (k0_t4_loop v33).trips) (k0_t5 : Fin (k0_t5_loop v33 k0_t4).trips), ∀ a, (k0_off69 v33 k0_t4 k0_t5) a + S1x16.size a ≤ S64x512.size a) ∧
  (∀ (k0_t4 : Fin (k0_t4_loop v33).trips) (k0_t5 : Fin (k0_t5_loop v33 k0_t4).trips), ∀ a, (k0_off70 v33 k0_t4 k0_t5) a + S1x16.size a ≤ S64x512.size a) ∧
  (∀ (k0_t4 : Fin (k0_t4_loop v33).trips) (k0_t5 : Fin (k0_t5_loop v33 k0_t4).trips), ∀ a, (k0_off71 v33 k0_t4 k0_t5) a + S1x16.size a ≤ S64x512.size a) ∧
  (∀ (k0_t4 : Fin (k0_t4_loop v33).trips) (k0_t5 : Fin (k0_t5_loop v33 k0_t4).trips), ∀ a, (k0_off72 v33 k0_t4 k0_t5) a + S1x16.size a ≤ S64x512.size a) ∧
  (∀ (k0_t4 : Fin (k0_t4_loop v33).trips) (k0_t5 : Fin (k0_t5_loop v33 k0_t4).trips), ∀ a, (k0_off73 v33 k0_t4 k0_t5) a + S1x16.size a ≤ S64x512.size a) ∧
  (∀ (k0_t4 : Fin (k0_t4_loop v33).trips) (k0_t5 : Fin (k0_t5_loop v33 k0_t4).trips), ∀ a, (k0_off74 v33 k0_t4 k0_t5) a + S1x16.size a ≤ S64x512.size a) ∧
  (∀ (k0_t4 : Fin (k0_t4_loop v33).trips) (k0_t5 : Fin (k0_t5_loop v33 k0_t4).trips), ∀ a, (k0_off75 v33 k0_t4 k0_t5) a + S1x16.size a ≤ S64x512.size a) ∧
  (∀ (k0_t4 : Fin (k0_t4_loop v33).trips) (k0_t5 : Fin (k0_t5_loop v33 k0_t4).trips), ∀ a, (k0_off76 v33 k0_t4 k0_t5) a + S1x16.size a ≤ S64x512.size a) ∧
  (∀ (k0_t4 : Fin (k0_t4_loop v33).trips) (k0_t5 : Fin (k0_t5_loop v33 k0_t4).trips), ∀ a, (k0_off77 v33 k0_t4 k0_t5) a + S1x16.size a ≤ S64x512.size a) ∧
  (∀ (k0_t4 : Fin (k0_t4_loop v33).trips) (k0_t5 : Fin (k0_t5_loop v33 k0_t4).trips), ∀ a, (k0_off78 v33 k0_t4 k0_t5) a + S1x16.size a ≤ S64x512.size a) ∧
  (∀ (k0_t4 : Fin (k0_t4_loop v33).trips) (k0_t5 : Fin (k0_t5_loop v33 k0_t4).trips), ∀ a, (k0_off79 v33 k0_t4 k0_t5) a + S1x16.size a ≤ S64x512.size a) ∧
  (∀ (k0_t4 : Fin (k0_t4_loop v33).trips) (k0_t5 : Fin (k0_t5_loop v33 k0_t4).trips), ∀ a, (k0_off80 v33 k0_t4 k0_t5) a + S1x16.size a ≤ S64x512.size a) ∧
  (∀ (k0_t4 : Fin (k0_t4_loop v33).trips) (k0_t5 : Fin (k0_t5_loop v33 k0_t4).trips), ∀ a, (k0_off81 v33 k0_t4 k0_t5) a + S1x16.size a ≤ S64x512.size a) ∧
  (∀ (k0_t4 : Fin (k0_t4_loop v33).trips) (k0_t5 : Fin (k0_t5_loop v33 k0_t4).trips), ∀ a, (k0_off82 v33 k0_t4 k0_t5) a + S1x16.size a ≤ S64x512.size a) ∧
  (∀ (k0_t4 : Fin (k0_t4_loop v33).trips) (k0_t5 : Fin (k0_t5_loop v33 k0_t4).trips), ∀ a, (k0_off83 v33 k0_t4 k0_t5) a + S1x16.size a ≤ S64x512.size a) ∧
  (∀ (k0_t4 : Fin (k0_t4_loop v33).trips) (k0_t5 : Fin (k0_t5_loop v33 k0_t4).trips), ∀ a, (k0_off84 v33 k0_t4 k0_t5) a + S1x16.size a ≤ S64x512.size a) ∧
  (∀ (k0_t4 : Fin (k0_t4_loop v33).trips) (k0_t5 : Fin (k0_t5_loop v33 k0_t4).trips), ∀ a, (k0_off85 v33 k0_t4 k0_t5) a + S1x16.size a ≤ S64x512.size a) ∧
  (∀ (k0_t4 : Fin (k0_t4_loop v33).trips) (k0_t5 : Fin (k0_t5_loop v33 k0_t4).trips), ∀ a, (k0_off86 v33 k0_t4 k0_t5) a + S1x16.size a ≤ S64x512.size a) ∧
  (∀ (k0_t4 : Fin (k0_t4_loop v33).trips) (k0_t5 : Fin (k0_t5_loop v33 k0_t4).trips), ∀ a, (k0_off87 v33 k0_t4 k0_t5) a + S1x16.size a ≤ S64x512.size a) ∧
  (∀ (k0_t4 : Fin (k0_t4_loop v33).trips) (k0_t5 : Fin (k0_t5_loop v33 k0_t4).trips), ∀ a, (k0_off88 v33 k0_t4 k0_t5) a + S1x16.size a ≤ S64x512.size a) ∧
  (∀ (k0_t4 : Fin (k0_t4_loop v33).trips) (k0_t5 : Fin (k0_t5_loop v33 k0_t4).trips), ∀ a, (k0_off89 v33 k0_t4 k0_t5) a + S1x16.size a ≤ S64x512.size a) ∧
  (∀ (k0_t4 : Fin (k0_t4_loop v33).trips) (k0_t5 : Fin (k0_t5_loop v33 k0_t4).trips), ∀ a, (k0_off90 v33 k0_t4 k0_t5) a + S1x16.size a ≤ S64x512.size a) ∧
  (∀ (k0_t4 : Fin (k0_t4_loop v33).trips) (k0_t5 : Fin (k0_t5_loop v33 k0_t4).trips), ∀ a, (k0_off91 v33 k0_t4 k0_t5) a + S1x16.size a ≤ S64x512.size a) ∧
  (∀ (k0_t4 : Fin (k0_t4_loop v33).trips) (k0_t5 : Fin (k0_t5_loop v33 k0_t4).trips), ∀ a, (k0_off92 v33 k0_t4 k0_t5) a + S1x16.size a ≤ S64x512.size a)
def k0_chk1_3 (i : grid0.Coords) (v33 : BitVec 32) : Prop :=
  (∀ (k0_t4 : Fin (k0_t4_loop v33).trips) (k0_t5 : Fin (k0_t5_loop v33 k0_t4).trips), ∀ a, (k0_off93 v33 k0_t4 k0_t5) a + S1x16.size a ≤ S64x512.size a) ∧
  (∀ (k0_t4 : Fin (k0_t4_loop v33).trips) (k0_t5 : Fin (k0_t5_loop v33 k0_t4).trips), ∀ a, (k0_off94 v33 k0_t4 k0_t5) a + S1x16.size a ≤ S64x512.size a) ∧
  (∀ (k0_t4 : Fin (k0_t4_loop v33).trips) (k0_t5 : Fin (k0_t5_loop v33 k0_t4).trips), ∀ a, (k0_off95 v33 k0_t4 k0_t5) a + S1x16.size a ≤ S64x512.size a) ∧
  (∀ (k0_t4 : Fin (k0_t4_loop v33).trips) (k0_t5 : Fin (k0_t5_loop v33 k0_t4).trips), ∀ a, (k0_off96 v33 k0_t4 k0_t5) a + S1x16.size a ≤ S64x512.size a) ∧
  (∀ (k0_t4 : Fin (k0_t4_loop v33).trips) (k0_t5 : Fin (k0_t5_loop v33 k0_t4).trips), ∀ a, (k0_off97 v33 k0_t4 k0_t5) a + S1x16.size a ≤ S64x512.size a) ∧
  (∀ (k0_t4 : Fin (k0_t4_loop v33).trips) (k0_t5 : Fin (k0_t5_loop v33 k0_t4).trips), ∀ a, (k0_off98 v33 k0_t4 k0_t5) a + S1x16.size a ≤ S64x512.size a) ∧
  (∀ (k0_t4 : Fin (k0_t4_loop v33).trips) (k0_t5 : Fin (k0_t5_loop v33 k0_t4).trips), ∀ a, (k0_off99 v33 k0_t4 k0_t5) a + S1x16.size a ≤ S64x512.size a) ∧
  (∀ k0_t4 : Fin (k0_t4_loop v33).trips, (k0_t6_loop v33 k0_t4).OK) ∧
  (∀ (k0_t4 : Fin (k0_t4_loop v33).trips) (k0_t6 : Fin (k0_t6_loop v33 k0_t4).trips), ∀ a, (k0_off100 v33 k0_t4 k0_t6) a + S1x16.size a ≤ S64x512.size a) ∧
  (∀ (k0_t4 : Fin (k0_t4_loop v33).trips) (k0_t6 : Fin (k0_t6_loop v33 k0_t4).trips), ∀ a, (k0_off101 v33 k0_t4 k0_t6) a + S1x16.size a ≤ S64x512.size a) ∧
  (∀ (k0_t4 : Fin (k0_t4_loop v33).trips) (k0_t6 : Fin (k0_t6_loop v33 k0_t4).trips), ∀ a, (k0_off102 v33 k0_t4 k0_t6) a + S1x16.size a ≤ S64x512.size a) ∧
  (∀ (k0_t4 : Fin (k0_t4_loop v33).trips) (k0_t6 : Fin (k0_t6_loop v33 k0_t4).trips), ∀ a, (k0_off103 v33 k0_t4 k0_t6) a + S1x16.size a ≤ S64x512.size a) ∧
  (∀ (k0_t4 : Fin (k0_t4_loop v33).trips) (k0_t6 : Fin (k0_t6_loop v33 k0_t4).trips), ∀ a, (k0_off104 v33 k0_t4 k0_t6) a + S1x16.size a ≤ S64x512.size a) ∧
  (∀ (k0_t4 : Fin (k0_t4_loop v33).trips) (k0_t6 : Fin (k0_t6_loop v33 k0_t4).trips), ∀ a, (k0_off105 v33 k0_t4 k0_t6) a + S1x16.size a ≤ S64x512.size a) ∧
  (∀ (k0_t4 : Fin (k0_t4_loop v33).trips) (k0_t6 : Fin (k0_t6_loop v33 k0_t4).trips), ∀ a, (k0_off106 v33 k0_t4 k0_t6) a + S1x16.size a ≤ S64x512.size a) ∧
  (∀ (k0_t4 : Fin (k0_t4_loop v33).trips) (k0_t6 : Fin (k0_t6_loop v33 k0_t4).trips), ∀ a, (k0_off107 v33 k0_t4 k0_t6) a + S1x16.size a ≤ S64x512.size a) ∧
  (∀ (k0_t4 : Fin (k0_t4_loop v33).trips) (k0_t6 : Fin (k0_t6_loop v33 k0_t4).trips), ∀ a, (k0_off108 v33 k0_t4 k0_t6) a + S1x16.size a ≤ S64x512.size a) ∧
  (∀ (k0_t4 : Fin (k0_t4_loop v33).trips) (k0_t6 : Fin (k0_t6_loop v33 k0_t4).trips), ∀ a, (k0_off109 v33 k0_t4 k0_t6) a + S1x16.size a ≤ S64x512.size a) ∧
  (∀ (k0_t4 : Fin (k0_t4_loop v33).trips) (k0_t6 : Fin (k0_t6_loop v33 k0_t4).trips), ∀ a, (k0_off110 v33 k0_t4 k0_t6) a + S1x16.size a ≤ S64x512.size a) ∧
  (∀ (k0_t4 : Fin (k0_t4_loop v33).trips) (k0_t6 : Fin (k0_t6_loop v33 k0_t4).trips), ∀ a, (k0_off111 v33 k0_t4 k0_t6) a + S1x16.size a ≤ S64x512.size a) ∧
  (∀ (k0_t4 : Fin (k0_t4_loop v33).trips) (k0_t6 : Fin (k0_t6_loop v33 k0_t4).trips), ∀ a, (k0_off112 v33 k0_t4 k0_t6) a + S1x16.size a ≤ S64x512.size a) ∧
  (∀ (k0_t4 : Fin (k0_t4_loop v33).trips) (k0_t6 : Fin (k0_t6_loop v33 k0_t4).trips), ∀ a, (k0_off113 v33 k0_t4 k0_t6) a + S1x16.size a ≤ S64x512.size a) ∧
  (∀ (k0_t4 : Fin (k0_t4_loop v33).trips) (k0_t6 : Fin (k0_t6_loop v33 k0_t4).trips), ∀ a, (k0_off114 v33 k0_t4 k0_t6) a + S1x16.size a ≤ S64x512.size a) ∧
  (∀ (k0_t4 : Fin (k0_t4_loop v33).trips) (k0_t6 : Fin (k0_t6_loop v33 k0_t4).trips), ∀ a, (k0_off115 v33 k0_t4 k0_t6) a + S1x16.size a ≤ S64x512.size a) ∧
  (∀ (k0_t4 : Fin (k0_t4_loop v33).trips) (k0_t6 : Fin (k0_t6_loop v33 k0_t4).trips), ∀ a, (k0_off116 v33 k0_t4 k0_t6) a + S1x16.size a ≤ S64x512.size a) ∧
  (∀ (k0_t4 : Fin (k0_t4_loop v33).trips) (k0_t6 : Fin (k0_t6_loop v33 k0_t4).trips), ∀ a, (k0_off117 v33 k0_t4 k0_t6) a + S1x16.size a ≤ S64x512.size a) ∧
  (∀ (k0_t4 : Fin (k0_t4_loop v33).trips) (k0_t6 : Fin (k0_t6_loop v33 k0_t4).trips), ∀ a, (k0_off118 v33 k0_t4 k0_t6) a + S1x16.size a ≤ S64x512.size a) ∧
  (∀ (k0_t4 : Fin (k0_t4_loop v33).trips) (k0_t6 : Fin (k0_t6_loop v33 k0_t4).trips), ∀ a, (k0_off119 v33 k0_t4 k0_t6) a + S1x16.size a ≤ S64x512.size a) ∧
  (∀ (k0_t4 : Fin (k0_t4_loop v33).trips) (k0_t6 : Fin (k0_t6_loop v33 k0_t4).trips), ∀ a, (k0_off120 v33 k0_t4 k0_t6) a + S1x16.size a ≤ S64x512.size a) ∧
  (∀ (k0_t4 : Fin (k0_t4_loop v33).trips) (k0_t6 : Fin (k0_t6_loop v33 k0_t4).trips), ∀ a, (k0_off121 v33 k0_t4 k0_t6) a + S1x16.size a ≤ S64x512.size a) ∧
  (∀ (k0_t4 : Fin (k0_t4_loop v33).trips) (k0_t6 : Fin (k0_t6_loop v33 k0_t4).trips), ∀ a, (k0_off122 v33 k0_t4 k0_t6) a + S1x16.size a ≤ S64x512.size a) ∧
  (∀ (k0_t4 : Fin (k0_t4_loop v33).trips) (k0_t6 : Fin (k0_t6_loop v33 k0_t4).trips), ∀ a, (k0_off123 v33 k0_t4 k0_t6) a + S1x16.size a ≤ S64x512.size a)
def k0_chk1_4 (i : grid0.Coords) (v33 : BitVec 32) : Prop :=
  (∀ (k0_t4 : Fin (k0_t4_loop v33).trips) (k0_t6 : Fin (k0_t6_loop v33 k0_t4).trips), ∀ a, (k0_off124 v33 k0_t4 k0_t6) a + S1x16.size a ≤ S64x512.size a) ∧
  (∀ (k0_t4 : Fin (k0_t4_loop v33).trips) (k0_t6 : Fin (k0_t6_loop v33 k0_t4).trips), ∀ a, (k0_off125 v33 k0_t4 k0_t6) a + S1x16.size a ≤ S64x512.size a) ∧
  (∀ (k0_t4 : Fin (k0_t4_loop v33).trips) (k0_t6 : Fin (k0_t6_loop v33 k0_t4).trips), ∀ a, (k0_off126 v33 k0_t4 k0_t6) a + S1x16.size a ≤ S64x512.size a) ∧
  (∀ (k0_t4 : Fin (k0_t4_loop v33).trips) (k0_t6 : Fin (k0_t6_loop v33 k0_t4).trips), ∀ a, (k0_off127 v33 k0_t4 k0_t6) a + S1x16.size a ≤ S64x512.size a) ∧
  (∀ (k0_t4 : Fin (k0_t4_loop v33).trips) (k0_t6 : Fin (k0_t6_loop v33 k0_t4).trips), ∀ a, (k0_off128 v33 k0_t4 k0_t6) a + S1x16.size a ≤ S64x512.size a) ∧
  (∀ (k0_t4 : Fin (k0_t4_loop v33).trips) (k0_t6 : Fin (k0_t6_loop v33 k0_t4).trips), ∀ a, (k0_off129 v33 k0_t4 k0_t6) a + S1x16.size a ≤ S64x512.size a) ∧
  (∀ (k0_t4 : Fin (k0_t4_loop v33).trips) (k0_t6 : Fin (k0_t6_loop v33 k0_t4).trips), ∀ a, (k0_off130 v33 k0_t4 k0_t6) a + S1x16.size a ≤ S64x512.size a) ∧
  (∀ (k0_t4 : Fin (k0_t4_loop v33).trips) (k0_t6 : Fin (k0_t6_loop v33 k0_t4).trips), ∀ a, (k0_off131 v33 k0_t4 k0_t6) a + S1x16.size a ≤ S64x512.size a)
def k0_chk1 (i : grid0.Coords) (v33 : BitVec 32) : Prop :=
  k0_chk1_0 i v33 ∧
  k0_chk1_1 i v33 ∧
  k0_chk1_2 i v33 ∧
  k0_chk1_3 i v33 ∧
  k0_chk1_4 i v33
theorem k0_t1_ok : ∀ (i : grid0.Coords) (v33 : BitVec 32) (k0_hw1 : k0_chk1 i v33), (k0_t1_loop v33).OK := fun i v33 k0_hw1 => k0_hw1.1.1
theorem k0_off2_inb : ∀ (i : grid0.Coords) (v33 : BitVec 32) (k0_hw1 : k0_chk1 i v33) (k0_t1 : Fin (k0_t1_loop v33).trips), ∀ a, (k0_off2 i v33 k0_t1) a + S1x64x512.size a ≤ S16x2048x1024.size a := fun i v33 k0_hw1 k0_t1 => k0_hw1.1.2.1 k0_t1
theorem k0_t2_ok : ∀ (i : grid0.Coords) (v33 : BitVec 32) (k0_hw1 : k0_chk1 i v33) (k0_t1 : Fin (k0_t1_loop v33).trips), (k0_t2_loop v33 k0_t1).OK := fun i v33 k0_hw1 k0_t1 => k0_hw1.1.2.2.1 k0_t1
theorem k0_off3_inb : ∀ (i : grid0.Coords) (v33 : BitVec 32) (k0_hw1 : k0_chk1 i v33) (k0_t1 : Fin (k0_t1_loop v33).trips) (k0_t2 : Fin (k0_t2_loop v33 k0_t1).trips), ∀ a, (k0_off3 v33 k0_t1 k0_t2) a + S1x16.size a ≤ S64x512.size a := fun i v33 k0_hw1 k0_t1 k0_t2 => k0_hw1.1.2.2.2.1 k0_t1 k0_t2
theorem k0_off4_inb : ∀ (i : grid0.Coords) (v33 : BitVec 32) (k0_hw1 : k0_chk1 i v33) (k0_t1 : Fin (k0_t1_loop v33).trips) (k0_t2 : Fin (k0_t2_loop v33 k0_t1).trips), ∀ a, (k0_off4 v33 k0_t1 k0_t2) a + S1x16.size a ≤ S64x512.size a := fun i v33 k0_hw1 k0_t1 k0_t2 => k0_hw1.1.2.2.2.2.1 k0_t1 k0_t2
theorem k0_off5_inb : ∀ (i : grid0.Coords) (v33 : BitVec 32) (k0_hw1 : k0_chk1 i v33) (k0_t1 : Fin (k0_t1_loop v33).trips) (k0_t2 : Fin (k0_t2_loop v33 k0_t1).trips), ∀ a, (k0_off5 v33 k0_t1 k0_t2) a + S1x16.size a ≤ S64x512.size a := fun i v33 k0_hw1 k0_t1 k0_t2 => k0_hw1.1.2.2.2.2.2.1 k0_t1 k0_t2
theorem k0_off6_inb : ∀ (i : grid0.Coords) (v33 : BitVec 32) (k0_hw1 : k0_chk1 i v33) (k0_t1 : Fin (k0_t1_loop v33).trips) (k0_t2 : Fin (k0_t2_loop v33 k0_t1).trips), ∀ a, (k0_off6 v33 k0_t1 k0_t2) a + S1x16.size a ≤ S64x512.size a := fun i v33 k0_hw1 k0_t1 k0_t2 => k0_hw1.1.2.2.2.2.2.2.1 k0_t1 k0_t2
theorem k0_off7_inb : ∀ (i : grid0.Coords) (v33 : BitVec 32) (k0_hw1 : k0_chk1 i v33) (k0_t1 : Fin (k0_t1_loop v33).trips) (k0_t2 : Fin (k0_t2_loop v33 k0_t1).trips), ∀ a, (k0_off7 v33 k0_t1 k0_t2) a + S1x16.size a ≤ S64x512.size a := fun i v33 k0_hw1 k0_t1 k0_t2 => k0_hw1.1.2.2.2.2.2.2.2.1 k0_t1 k0_t2
theorem k0_off8_inb : ∀ (i : grid0.Coords) (v33 : BitVec 32) (k0_hw1 : k0_chk1 i v33) (k0_t1 : Fin (k0_t1_loop v33).trips) (k0_t2 : Fin (k0_t2_loop v33 k0_t1).trips), ∀ a, (k0_off8 v33 k0_t1 k0_t2) a + S1x16.size a ≤ S64x512.size a := fun i v33 k0_hw1 k0_t1 k0_t2 => k0_hw1.1.2.2.2.2.2.2.2.2.1 k0_t1 k0_t2
theorem k0_off9_inb : ∀ (i : grid0.Coords) (v33 : BitVec 32) (k0_hw1 : k0_chk1 i v33) (k0_t1 : Fin (k0_t1_loop v33).trips) (k0_t2 : Fin (k0_t2_loop v33 k0_t1).trips), ∀ a, (k0_off9 v33 k0_t1 k0_t2) a + S1x16.size a ≤ S64x512.size a := fun i v33 k0_hw1 k0_t1 k0_t2 => k0_hw1.1.2.2.2.2.2.2.2.2.2.1 k0_t1 k0_t2
theorem k0_off10_inb : ∀ (i : grid0.Coords) (v33 : BitVec 32) (k0_hw1 : k0_chk1 i v33) (k0_t1 : Fin (k0_t1_loop v33).trips) (k0_t2 : Fin (k0_t2_loop v33 k0_t1).trips), ∀ a, (k0_off10 v33 k0_t1 k0_t2) a + S1x16.size a ≤ S64x512.size a := fun i v33 k0_hw1 k0_t1 k0_t2 => k0_hw1.1.2.2.2.2.2.2.2.2.2.2.1 k0_t1 k0_t2
theorem k0_off11_inb : ∀ (i : grid0.Coords) (v33 : BitVec 32) (k0_hw1 : k0_chk1 i v33) (k0_t1 : Fin (k0_t1_loop v33).trips) (k0_t2 : Fin (k0_t2_loop v33 k0_t1).trips), ∀ a, (k0_off11 v33 k0_t1 k0_t2) a + S1x16.size a ≤ S64x512.size a := fun i v33 k0_hw1 k0_t1 k0_t2 => k0_hw1.1.2.2.2.2.2.2.2.2.2.2.2.1 k0_t1 k0_t2
theorem k0_off12_inb : ∀ (i : grid0.Coords) (v33 : BitVec 32) (k0_hw1 : k0_chk1 i v33) (k0_t1 : Fin (k0_t1_loop v33).trips) (k0_t2 : Fin (k0_t2_loop v33 k0_t1).trips), ∀ a, (k0_off12 v33 k0_t1 k0_t2) a + S1x16.size a ≤ S64x512.size a := fun i v33 k0_hw1 k0_t1 k0_t2 => k0_hw1.1.2.2.2.2.2.2.2.2.2.2.2.2.1 k0_t1 k0_t2
theorem k0_off13_inb : ∀ (i : grid0.Coords) (v33 : BitVec 32) (k0_hw1 : k0_chk1 i v33) (k0_t1 : Fin (k0_t1_loop v33).trips) (k0_t2 : Fin (k0_t2_loop v33 k0_t1).trips), ∀ a, (k0_off13 v33 k0_t1 k0_t2) a + S1x16.size a ≤ S64x512.size a := fun i v33 k0_hw1 k0_t1 k0_t2 => k0_hw1.1.2.2.2.2.2.2.2.2.2.2.2.2.2.1 k0_t1 k0_t2
theorem k0_off14_inb : ∀ (i : grid0.Coords) (v33 : BitVec 32) (k0_hw1 : k0_chk1 i v33) (k0_t1 : Fin (k0_t1_loop v33).trips) (k0_t2 : Fin (k0_t2_loop v33 k0_t1).trips), ∀ a, (k0_off14 v33 k0_t1 k0_t2) a + S1x16.size a ≤ S64x512.size a := fun i v33 k0_hw1 k0_t1 k0_t2 => k0_hw1.1.2.2.2.2.2.2.2.2.2.2.2.2.2.2.1 k0_t1 k0_t2
theorem k0_off15_inb : ∀ (i : grid0.Coords) (v33 : BitVec 32) (k0_hw1 : k0_chk1 i v33) (k0_t1 : Fin (k0_t1_loop v33).trips) (k0_t2 : Fin (k0_t2_loop v33 k0_t1).trips), ∀ a, (k0_off15 v33 k0_t1 k0_t2) a + S1x16.size a ≤ S64x512.size a := fun i v33 k0_hw1 k0_t1 k0_t2 => k0_hw1.1.2.2.2.2.2.2.2.2.2.2.2.2.2.2.2.1 k0_t1 k0_t2
theorem k0_off16_inb : ∀ (i : grid0.Coords) (v33 : BitVec 32) (k0_hw1 : k0_chk1 i v33) (k0_t1 : Fin (k0_t1_loop v33).trips) (k0_t2 : Fin (k0_t2_loop v33 k0_t1).trips), ∀ a, (k0_off16 v33 k0_t1 k0_t2) a + S1x16.size a ≤ S64x512.size a := fun i v33 k0_hw1 k0_t1 k0_t2 => k0_hw1.1.2.2.2.2.2.2.2.2.2.2.2.2.2.2.2.2.1 k0_t1 k0_t2
theorem k0_off17_inb : ∀ (i : grid0.Coords) (v33 : BitVec 32) (k0_hw1 : k0_chk1 i v33) (k0_t1 : Fin (k0_t1_loop v33).trips) (k0_t2 : Fin (k0_t2_loop v33 k0_t1).trips), ∀ a, (k0_off17 v33 k0_t1 k0_t2) a + S1x16.size a ≤ S64x512.size a := fun i v33 k0_hw1 k0_t1 k0_t2 => k0_hw1.1.2.2.2.2.2.2.2.2.2.2.2.2.2.2.2.2.2.1 k0_t1 k0_t2
theorem k0_off18_inb : ∀ (i : grid0.Coords) (v33 : BitVec 32) (k0_hw1 : k0_chk1 i v33) (k0_t1 : Fin (k0_t1_loop v33).trips) (k0_t2 : Fin (k0_t2_loop v33 k0_t1).trips), ∀ a, (k0_off18 v33 k0_t1 k0_t2) a + S1x16.size a ≤ S64x512.size a := fun i v33 k0_hw1 k0_t1 k0_t2 => k0_hw1.1.2.2.2.2.2.2.2.2.2.2.2.2.2.2.2.2.2.2.1 k0_t1 k0_t2
theorem k0_off19_inb : ∀ (i : grid0.Coords) (v33 : BitVec 32) (k0_hw1 : k0_chk1 i v33) (k0_t1 : Fin (k0_t1_loop v33).trips) (k0_t2 : Fin (k0_t2_loop v33 k0_t1).trips), ∀ a, (k0_off19 v33 k0_t1 k0_t2) a + S1x16.size a ≤ S64x512.size a := fun i v33 k0_hw1 k0_t1 k0_t2 => k0_hw1.1.2.2.2.2.2.2.2.2.2.2.2.2.2.2.2.2.2.2.2.1 k0_t1 k0_t2
theorem k0_off20_inb : ∀ (i : grid0.Coords) (v33 : BitVec 32) (k0_hw1 : k0_chk1 i v33) (k0_t1 : Fin (k0_t1_loop v33).trips) (k0_t2 : Fin (k0_t2_loop v33 k0_t1).trips), ∀ a, (k0_off20 v33 k0_t1 k0_t2) a + S1x16.size a ≤ S64x512.size a := fun i v33 k0_hw1 k0_t1 k0_t2 => k0_hw1.1.2.2.2.2.2.2.2.2.2.2.2.2.2.2.2.2.2.2.2.2.1 k0_t1 k0_t2
theorem k0_off21_inb : ∀ (i : grid0.Coords) (v33 : BitVec 32) (k0_hw1 : k0_chk1 i v33) (k0_t1 : Fin (k0_t1_loop v33).trips) (k0_t2 : Fin (k0_t2_loop v33 k0_t1).trips), ∀ a, (k0_off21 v33 k0_t1 k0_t2) a + S1x16.size a ≤ S64x512.size a := fun i v33 k0_hw1 k0_t1 k0_t2 => k0_hw1.1.2.2.2.2.2.2.2.2.2.2.2.2.2.2.2.2.2.2.2.2.2.1 k0_t1 k0_t2
theorem k0_off22_inb : ∀ (i : grid0.Coords) (v33 : BitVec 32) (k0_hw1 : k0_chk1 i v33) (k0_t1 : Fin (k0_t1_loop v33).trips) (k0_t2 : Fin (k0_t2_loop v33 k0_t1).trips), ∀ a, (k0_off22 v33 k0_t1 k0_t2) a + S1x16.size a ≤ S64x512.size a := fun i v33 k0_hw1 k0_t1 k0_t2 => k0_hw1.1.2.2.2.2.2.2.2.2.2.2.2.2.2.2.2.2.2.2.2.2.2.2.1 k0_t1 k0_t2
theorem k0_off23_inb : ∀ (i : grid0.Coords) (v33 : BitVec 32) (k0_hw1 : k0_chk1 i v33) (k0_t1 : Fin (k0_t1_loop v33).trips) (k0_t2 : Fin (k0_t2_loop v33 k0_t1).trips), ∀ a, (k0_off23 v33 k0_t1 k0_t2) a + S1x16.size a ≤ S64x512.size a := fun i v33 k0_hw1 k0_t1 k0_t2 => k0_hw1.1.2.2.2.2.2.2.2.2.2.2.2.2.2.2.2.2.2.2.2.2.2.2.2.1 k0_t1 k0_t2
theorem k0_off24_inb : ∀ (i : grid0.Coords) (v33 : BitVec 32) (k0_hw1 : k0_chk1 i v33) (k0_t1 : Fin (k0_t1_loop v33).trips) (k0_t2 : Fin (k0_t2_loop v33 k0_t1).trips), ∀ a, (k0_off24 v33 k0_t1 k0_t2) a + S1x16.size a ≤ S64x512.size a := fun i v33 k0_hw1 k0_t1 k0_t2 => k0_hw1.1.2.2.2.2.2.2.2.2.2.2.2.2.2.2.2.2.2.2.2.2.2.2.2.2.1 k0_t1 k0_t2
theorem k0_off25_inb : ∀ (i : grid0.Coords) (v33 : BitVec 32) (k0_hw1 : k0_chk1 i v33) (k0_t1 : Fin (k0_t1_loop v33).trips) (k0_t2 : Fin (k0_t2_loop v33 k0_t1).trips), ∀ a, (k0_off25 v33 k0_t1 k0_t2) a + S1x16.size a ≤ S64x512.size a := fun i v33 k0_hw1 k0_t1 k0_t2 => k0_hw1.1.2.2.2.2.2.2.2.2.2.2.2.2.2.2.2.2.2.2.2.2.2.2.2.2.2.1 k0_t1 k0_t2
theorem k0_off26_inb : ∀ (i : grid0.Coords) (v33 : BitVec 32) (k0_hw1 : k0_chk1 i v33) (k0_t1 : Fin (k0_t1_loop v33).trips) (k0_t2 : Fin (k0_t2_loop v33 k0_t1).trips), ∀ a, (k0_off26 v33 k0_t1 k0_t2) a + S1x16.size a ≤ S64x512.size a := fun i v33 k0_hw1 k0_t1 k0_t2 => k0_hw1.1.2.2.2.2.2.2.2.2.2.2.2.2.2.2.2.2.2.2.2.2.2.2.2.2.2.2.1 k0_t1 k0_t2
theorem k0_off27_inb : ∀ (i : grid0.Coords) (v33 : BitVec 32) (k0_hw1 : k0_chk1 i v33) (k0_t1 : Fin (k0_t1_loop v33).trips) (k0_t2 : Fin (k0_t2_loop v33 k0_t1).trips), ∀ a, (k0_off27 v33 k0_t1 k0_t2) a + S1x16.size a ≤ S64x512.size a := fun i v33 k0_hw1 k0_t1 k0_t2 => k0_hw1.1.2.2.2.2.2.2.2.2.2.2.2.2.2.2.2.2.2.2.2.2.2.2.2.2.2.2.2.1 k0_t1 k0_t2
theorem k0_off28_inb : ∀ (i : grid0.Coords) (v33 : BitVec 32) (k0_hw1 : k0_chk1 i v33) (k0_t1 : Fin (k0_t1_loop v33).trips) (k0_t2 : Fin (k0_t2_loop v33 k0_t1).trips), ∀ a, (k0_off28 v33 k0_t1 k0_t2) a + S1x16.size a ≤ S64x512.size a := fun i v33 k0_hw1 k0_t1 k0_t2 => k0_hw1.1.2.2.2.2.2.2.2.2.2.2.2.2.2.2.2.2.2.2.2.2.2.2.2.2.2.2.2.2.1 k0_t1 k0_t2
theorem k0_off29_inb : ∀ (i : grid0.Coords) (v33 : BitVec 32) (k0_hw1 : k0_chk1 i v33) (k0_t1 : Fin (k0_t1_loop v33).trips) (k0_t2 : Fin (k0_t2_loop v33 k0_t1).trips), ∀ a, (k0_off29 v33 k0_t1 k0_t2) a + S1x16.size a ≤ S64x512.size a := fun i v33 k0_hw1 k0_t1 k0_t2 => k0_hw1.1.2.2.2.2.2.2.2.2.2.2.2.2.2.2.2.2.2.2.2.2.2.2.2.2.2.2.2.2.2.1 k0_t1 k0_t2
theorem k0_off30_inb : ∀ (i : grid0.Coords) (v33 : BitVec 32) (k0_hw1 : k0_chk1 i v33) (k0_t1 : Fin (k0_t1_loop v33).trips) (k0_t2 : Fin (k0_t2_loop v33 k0_t1).trips), ∀ a, (k0_off30 v33 k0_t1 k0_t2) a + S1x16.size a ≤ S64x512.size a := fun i v33 k0_hw1 k0_t1 k0_t2 => k0_hw1.1.2.2.2.2.2.2.2.2.2.2.2.2.2.2.2.2.2.2.2.2.2.2.2.2.2.2.2.2.2.2.1 k0_t1 k0_t2
theorem k0_off31_inb : ∀ (i : grid0.Coords) (v33 : BitVec 32) (k0_hw1 : k0_chk1 i v33) (k0_t1 : Fin (k0_t1_loop v33).trips) (k0_t2 : Fin (k0_t2_loop v33 k0_t1).trips), ∀ a, (k0_off31 v33 k0_t1 k0_t2) a + S1x16.size a ≤ S64x512.size a := fun i v33 k0_hw1 k0_t1 k0_t2 => k0_hw1.1.2.2.2.2.2.2.2.2.2.2.2.2.2.2.2.2.2.2.2.2.2.2.2.2.2.2.2.2.2.2.2 k0_t1 k0_t2
theorem k0_off32_inb : ∀ (i : grid0.Coords) (v33 : BitVec 32) (k0_hw1 : k0_chk1 i v33) (k0_t1 : Fin (k0_t1_loop v33).trips) (k0_t2 : Fin (k0_t2_loop v33 k0_t1).trips), ∀ a, (k0_off32 v33 k0_t1 k0_t2) a + S1x16.size a ≤ S64x512.size a := fun i v33 k0_hw1 k0_t1 k0_t2 => k0_hw1.2.1.1 k0_t1 k0_t2
theorem k0_off33_inb : ∀ (i : grid0.Coords) (v33 : BitVec 32) (k0_hw1 : k0_chk1 i v33) (k0_t1 : Fin (k0_t1_loop v33).trips) (k0_t2 : Fin (k0_t2_loop v33 k0_t1).trips), ∀ a, (k0_off33 v33 k0_t1 k0_t2) a + S1x16.size a ≤ S64x512.size a := fun i v33 k0_hw1 k0_t1 k0_t2 => k0_hw1.2.1.2.1 k0_t1 k0_t2
theorem k0_off34_inb : ∀ (i : grid0.Coords) (v33 : BitVec 32) (k0_hw1 : k0_chk1 i v33) (k0_t1 : Fin (k0_t1_loop v33).trips) (k0_t2 : Fin (k0_t2_loop v33 k0_t1).trips), ∀ a, (k0_off34 v33 k0_t1 k0_t2) a + S1x16.size a ≤ S64x512.size a := fun i v33 k0_hw1 k0_t1 k0_t2 => k0_hw1.2.1.2.2.1 k0_t1 k0_t2
theorem k0_t3_ok : ∀ (i : grid0.Coords) (v33 : BitVec 32) (k0_hw1 : k0_chk1 i v33) (k0_t1 : Fin (k0_t1_loop v33).trips), (k0_t3_loop v33 k0_t1).OK := fun i v33 k0_hw1 k0_t1 => k0_hw1.2.1.2.2.2.1 k0_t1
theorem k0_off35_inb : ∀ (i : grid0.Coords) (v33 : BitVec 32) (k0_hw1 : k0_chk1 i v33) (k0_t1 : Fin (k0_t1_loop v33).trips) (k0_t3 : Fin (k0_t3_loop v33 k0_t1).trips), ∀ a, (k0_off35 v33 k0_t1 k0_t3) a + S1x16.size a ≤ S64x512.size a := fun i v33 k0_hw1 k0_t1 k0_t3 => k0_hw1.2.1.2.2.2.2.1 k0_t1 k0_t3
theorem k0_off36_inb : ∀ (i : grid0.Coords) (v33 : BitVec 32) (k0_hw1 : k0_chk1 i v33) (k0_t1 : Fin (k0_t1_loop v33).trips) (k0_t3 : Fin (k0_t3_loop v33 k0_t1).trips), ∀ a, (k0_off36 v33 k0_t1 k0_t3) a + S1x16.size a ≤ S64x512.size a := fun i v33 k0_hw1 k0_t1 k0_t3 => k0_hw1.2.1.2.2.2.2.2.1 k0_t1 k0_t3
theorem k0_off37_inb : ∀ (i : grid0.Coords) (v33 : BitVec 32) (k0_hw1 : k0_chk1 i v33) (k0_t1 : Fin (k0_t1_loop v33).trips) (k0_t3 : Fin (k0_t3_loop v33 k0_t1).trips), ∀ a, (k0_off37 v33 k0_t1 k0_t3) a + S1x16.size a ≤ S64x512.size a := fun i v33 k0_hw1 k0_t1 k0_t3 => k0_hw1.2.1.2.2.2.2.2.2.1 k0_t1 k0_t3
theorem k0_off38_inb : ∀ (i : grid0.Coords) (v33 : BitVec 32) (k0_hw1 : k0_chk1 i v33) (k0_t1 : Fin (k0_t1_loop v33).trips) (k0_t3 : Fin (k0_t3_loop v33 k0_t1).trips), ∀ a, (k0_off38 v33 k0_t1 k0_t3) a + S1x16.size a ≤ S64x512.size a := fun i v33 k0_hw1 k0_t1 k0_t3 => k0_hw1.2.1.2.2.2.2.2.2.2.1 k0_t1 k0_t3
theorem k0_off39_inb : ∀ (i : grid0.Coords) (v33 : BitVec 32) (k0_hw1 : k0_chk1 i v33) (k0_t1 : Fin (k0_t1_loop v33).trips) (k0_t3 : Fin (k0_t3_loop v33 k0_t1).trips), ∀ a, (k0_off39 v33 k0_t1 k0_t3) a + S1x16.size a ≤ S64x512.size a := fun i v33 k0_hw1 k0_t1 k0_t3 => k0_hw1.2.1.2.2.2.2.2.2.2.2.1 k0_t1 k0_t3
theorem k0_off40_inb : ∀ (i : grid0.Coords) (v33 : BitVec 32) (k0_hw1 : k0_chk1 i v33) (k0_t1 : Fin (k0_t1_loop v33).trips) (k0_t3 : Fin (k0_t3_loop v33 k0_t1).trips), ∀ a, (k0_off40 v33 k0_t1 k0_t3) a + S1x16.size a ≤ S64x512.size a := fun i v33 k0_hw1 k0_t1 k0_t3 => k0_hw1.2.1.2.2.2.2.2.2.2.2.2.1 k0_t1 k0_t3
theorem k0_off41_inb : ∀ (i : grid0.Coords) (v33 : BitVec 32) (k0_hw1 : k0_chk1 i v33) (k0_t1 : Fin (k0_t1_loop v33).trips) (k0_t3 : Fin (k0_t3_loop v33 k0_t1).trips), ∀ a, (k0_off41 v33 k0_t1 k0_t3) a + S1x16.size a ≤ S64x512.size a := fun i v33 k0_hw1 k0_t1 k0_t3 => k0_hw1.2.1.2.2.2.2.2.2.2.2.2.2.1 k0_t1 k0_t3
theorem k0_off42_inb : ∀ (i : grid0.Coords) (v33 : BitVec 32) (k0_hw1 : k0_chk1 i v33) (k0_t1 : Fin (k0_t1_loop v33).trips) (k0_t3 : Fin (k0_t3_loop v33 k0_t1).trips), ∀ a, (k0_off42 v33 k0_t1 k0_t3) a + S1x16.size a ≤ S64x512.size a := fun i v33 k0_hw1 k0_t1 k0_t3 => k0_hw1.2.1.2.2.2.2.2.2.2.2.2.2.2.1 k0_t1 k0_t3
theorem k0_off43_inb : ∀ (i : grid0.Coords) (v33 : BitVec 32) (k0_hw1 : k0_chk1 i v33) (k0_t1 : Fin (k0_t1_loop v33).trips) (k0_t3 : Fin (k0_t3_loop v33 k0_t1).trips), ∀ a, (k0_off43 v33 k0_t1 k0_t3) a + S1x16.size a ≤ S64x512.size a := fun i v33 k0_hw1 k0_t1 k0_t3 => k0_hw1.2.1.2.2.2.2.2.2.2.2.2.2.2.2.1 k0_t1 k0_t3
theorem k0_off44_inb : ∀ (i : grid0.Coords) (v33 : BitVec 32) (k0_hw1 : k0_chk1 i v33) (k0_t1 : Fin (k0_t1_loop v33).trips) (k0_t3 : Fin (k0_t3_loop v33 k0_t1).trips), ∀ a, (k0_off44 v33 k0_t1 k0_t3) a + S1x16.size a ≤ S64x512.size a := fun i v33 k0_hw1 k0_t1 k0_t3 => k0_hw1.2.1.2.2.2.2.2.2.2.2.2.2.2.2.2.1 k0_t1 k0_t3
theorem k0_off45_inb : ∀ (i : grid0.Coords) (v33 : BitVec 32) (k0_hw1 : k0_chk1 i v33) (k0_t1 : Fin (k0_t1_loop v33).trips) (k0_t3 : Fin (k0_t3_loop v33 k0_t1).trips), ∀ a, (k0_off45 v33 k0_t1 k0_t3) a + S1x16.size a ≤ S64x512.size a := fun i v33 k0_hw1 k0_t1 k0_t3 => k0_hw1.2.1.2.2.2.2.2.2.2.2.2.2.2.2.2.2.1 k0_t1 k0_t3
theorem k0_off46_inb : ∀ (i : grid0.Coords) (v33 : BitVec 32) (k0_hw1 : k0_chk1 i v33) (k0_t1 : Fin (k0_t1_loop v33).trips) (k0_t3 : Fin (k0_t3_loop v33 k0_t1).trips), ∀ a, (k0_off46 v33 k0_t1 k0_t3) a + S1x16.size a ≤ S64x512.size a := fun i v33 k0_hw1 k0_t1 k0_t3 => k0_hw1.2.1.2.2.2.2.2.2.2.2.2.2.2.2.2.2.2.1 k0_t1 k0_t3
theorem k0_off47_inb : ∀ (i : grid0.Coords) (v33 : BitVec 32) (k0_hw1 : k0_chk1 i v33) (k0_t1 : Fin (k0_t1_loop v33).trips) (k0_t3 : Fin (k0_t3_loop v33 k0_t1).trips), ∀ a, (k0_off47 v33 k0_t1 k0_t3) a + S1x16.size a ≤ S64x512.size a := fun i v33 k0_hw1 k0_t1 k0_t3 => k0_hw1.2.1.2.2.2.2.2.2.2.2.2.2.2.2.2.2.2.2.1 k0_t1 k0_t3
theorem k0_off48_inb : ∀ (i : grid0.Coords) (v33 : BitVec 32) (k0_hw1 : k0_chk1 i v33) (k0_t1 : Fin (k0_t1_loop v33).trips) (k0_t3 : Fin (k0_t3_loop v33 k0_t1).trips), ∀ a, (k0_off48 v33 k0_t1 k0_t3) a + S1x16.size a ≤ S64x512.size a := fun i v33 k0_hw1 k0_t1 k0_t3 => k0_hw1.2.1.2.2.2.2.2.2.2.2.2.2.2.2.2.2.2.2.2.1 k0_t1 k0_t3
theorem k0_off49_inb : ∀ (i : grid0.Coords) (v33 : BitVec 32) (k0_hw1 : k0_chk1 i v33) (k0_t1 : Fin (k0_t1_loop v33).trips) (k0_t3 : Fin (k0_t3_loop v33 k0_t1).trips), ∀ a, (k0_off49 v33 k0_t1 k0_t3) a + S1x16.size a ≤ S64x512.size a := fun i v33 k0_hw1 k0_t1 k0_t3 => k0_hw1.2.1.2.2.2.2.2.2.2.2.2.2.2.2.2.2.2.2.2.2.1 k0_t1 k0_t3
theorem k0_off50_inb : ∀ (i : grid0.Coords) (v33 : BitVec 32) (k0_hw1 : k0_chk1 i v33) (k0_t1 : Fin (k0_t1_loop v33).trips) (k0_t3 : Fin (k0_t3_loop v33 k0_t1).trips), ∀ a, (k0_off50 v33 k0_t1 k0_t3) a + S1x16.size a ≤ S64x512.size a := fun i v33 k0_hw1 k0_t1 k0_t3 => k0_hw1.2.1.2.2.2.2.2.2.2.2.2.2.2.2.2.2.2.2.2.2.2.1 k0_t1 k0_t3
theorem k0_off51_inb : ∀ (i : grid0.Coords) (v33 : BitVec 32) (k0_hw1 : k0_chk1 i v33) (k0_t1 : Fin (k0_t1_loop v33).trips) (k0_t3 : Fin (k0_t3_loop v33 k0_t1).trips), ∀ a, (k0_off51 v33 k0_t1 k0_t3) a + S1x16.size a ≤ S64x512.size a := fun i v33 k0_hw1 k0_t1 k0_t3 => k0_hw1.2.1.2.2.2.2.2.2.2.2.2.2.2.2.2.2.2.2.2.2.2.2.1 k0_t1 k0_t3
theorem k0_off52_inb : ∀ (i : grid0.Coords) (v33 : BitVec 32) (k0_hw1 : k0_chk1 i v33) (k0_t1 : Fin (k0_t1_loop v33).trips) (k0_t3 : Fin (k0_t3_loop v33 k0_t1).trips), ∀ a, (k0_off52 v33 k0_t1 k0_t3) a + S1x16.size a ≤ S64x512.size a := fun i v33 k0_hw1 k0_t1 k0_t3 => k0_hw1.2.1.2.2.2.2.2.2.2.2.2.2.2.2.2.2.2.2.2.2.2.2.2.1 k0_t1 k0_t3
theorem k0_off53_inb : ∀ (i : grid0.Coords) (v33 : BitVec 32) (k0_hw1 : k0_chk1 i v33) (k0_t1 : Fin (k0_t1_loop v33).trips) (k0_t3 : Fin (k0_t3_loop v33 k0_t1).trips), ∀ a, (k0_off53 v33 k0_t1 k0_t3) a + S1x16.size a ≤ S64x512.size a := fun i v33 k0_hw1 k0_t1 k0_t3 => k0_hw1.2.1.2.2.2.2.2.2.2.2.2.2.2.2.2.2.2.2.2.2.2.2.2.2.1 k0_t1 k0_t3
theorem k0_off54_inb : ∀ (i : grid0.Coords) (v33 : BitVec 32) (k0_hw1 : k0_chk1 i v33) (k0_t1 : Fin (k0_t1_loop v33).trips) (k0_t3 : Fin (k0_t3_loop v33 k0_t1).trips), ∀ a, (k0_off54 v33 k0_t1 k0_t3) a + S1x16.size a ≤ S64x512.size a := fun i v33 k0_hw1 k0_t1 k0_t3 => k0_hw1.2.1.2.2.2.2.2.2.2.2.2.2.2.2.2.2.2.2.2.2.2.2.2.2.2.1 k0_t1 k0_t3
theorem k0_off55_inb : ∀ (i : grid0.Coords) (v33 : BitVec 32) (k0_hw1 : k0_chk1 i v33) (k0_t1 : Fin (k0_t1_loop v33).trips) (k0_t3 : Fin (k0_t3_loop v33 k0_t1).trips), ∀ a, (k0_off55 v33 k0_t1 k0_t3) a + S1x16.size a ≤ S64x512.size a := fun i v33 k0_hw1 k0_t1 k0_t3 => k0_hw1.2.1.2.2.2.2.2.2.2.2.2.2.2.2.2.2.2.2.2.2.2.2.2.2.2.2.1 k0_t1 k0_t3
theorem k0_off56_inb : ∀ (i : grid0.Coords) (v33 : BitVec 32) (k0_hw1 : k0_chk1 i v33) (k0_t1 : Fin (k0_t1_loop v33).trips) (k0_t3 : Fin (k0_t3_loop v33 k0_t1).trips), ∀ a, (k0_off56 v33 k0_t1 k0_t3) a + S1x16.size a ≤ S64x512.size a := fun i v33 k0_hw1 k0_t1 k0_t3 => k0_hw1.2.1.2.2.2.2.2.2.2.2.2.2.2.2.2.2.2.2.2.2.2.2.2.2.2.2.2.1 k0_t1 k0_t3
theorem k0_off57_inb : ∀ (i : grid0.Coords) (v33 : BitVec 32) (k0_hw1 : k0_chk1 i v33) (k0_t1 : Fin (k0_t1_loop v33).trips) (k0_t3 : Fin (k0_t3_loop v33 k0_t1).trips), ∀ a, (k0_off57 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.1 k0_t1 k0_t3
theorem k0_off58_inb : ∀ (i : grid0.Coords) (v33 : BitVec 32) (k0_hw1 : k0_chk1 i v33) (k0_t1 : Fin (k0_t1_loop v33).trips) (k0_t3 : Fin (k0_t3_loop v33 k0_t1).trips), ∀ a, (k0_off58 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.2.1 k0_t1 k0_t3
theorem k0_off59_inb : ∀ (i : grid0.Coords) (v33 : BitVec 32) (k0_hw1 : k0_chk1 i v33) (k0_t1 : Fin (k0_t1_loop v33).trips) (k0_t3 : Fin (k0_t3_loop v33 k0_t1).trips), ∀ a, (k0_off59 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.2.2.1 k0_t1 k0_t3
theorem k0_off60_inb : ∀ (i : grid0.Coords) (v33 : BitVec 32) (k0_hw1 : k0_chk1 i v33) (k0_t1 : Fin (k0_t1_loop v33).trips) (k0_t3 : Fin (k0_t3_loop v33 k0_t1).trips), ∀ a, (k0_off60 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.2.2.2.1 k0_t1 k0_t3
theorem k0_off61_inb : ∀ (i : grid0.Coords) (v33 : BitVec 32) (k0_hw1 : k0_chk1 i v33) (k0_t1 : Fin (k0_t1_loop v33).trips) (k0_t3 : Fin (k0_t3_loop v33 k0_t1).trips), ∀ a, (k0_off61 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.2.2.2.2.1 k0_t1 k0_t3
theorem k0_off62_inb : ∀ (i : grid0.Coords) (v33 : BitVec 32) (k0_hw1 : k0_chk1 i v33) (k0_t1 : Fin (k0_t1_loop v33).trips) (k0_t3 : Fin (k0_t3_loop v33 k0_t1).trips), ∀ a, (k0_off62 v33 k0_t1 k0_t3) a + S1x16.size a ≤ S64x512.size a := fun i v33 k0_hw1 k0_t1 k0_t3 => k0_hw1.2.1.2.2.2.2.2.2.2.2.2.2.2.2.2.2.2.2.2.2.2.2.2.2.2.2.2.2.2.2.2.2.2 k0_t1 k0_t3
theorem k0_off63_inb : ∀ (i : grid0.Coords) (v33 : BitVec 32) (k0_hw1 : k0_chk1 i v33) (k0_t1 : Fin (k0_t1_loop v33).trips) (k0_t3 : Fin (k0_t3_loop v33 k0_t1).trips), ∀ a, (k0_off63 v33 k0_t1 k0_t3) a + S1x16.size a ≤ S64x512.size a := fun i v33 k0_hw1 k0_t1 k0_t3 => k0_hw1.2.2.1.1 k0_t1 k0_t3
theorem k0_off64_inb : ∀ (i : grid0.Coords) (v33 : BitVec 32) (k0_hw1 : k0_chk1 i v33) (k0_t1 : Fin (k0_t1_loop v33).trips) (k0_t3 : Fin (k0_t3_loop v33 k0_t1).trips), ∀ a, (k0_off64 v33 k0_t1 k0_t3) a + S1x16.size a ≤ S64x512.size a := fun i v33 k0_hw1 k0_t1 k0_t3 => k0_hw1.2.2.1.2.1 k0_t1 k0_t3
theorem k0_off65_inb : ∀ (i : grid0.Coords) (v33 : BitVec 32) (k0_hw1 : k0_chk1 i v33) (k0_t1 : Fin (k0_t1_loop v33).trips) (k0_t3 : Fin (k0_t3_loop v33 k0_t1).trips), ∀ a, (k0_off65 v33 k0_t1 k0_t3) a + S1x16.size a ≤ S64x512.size a := fun i v33 k0_hw1 k0_t1 k0_t3 => k0_hw1.2.2.1.2.2.1 k0_t1 k0_t3
theorem k0_off66_inb : ∀ (i : grid0.Coords) (v33 : BitVec 32) (k0_hw1 : k0_chk1 i v33) (k0_t1 : Fin (k0_t1_loop v33).trips) (k0_t3 : Fin (k0_t3_loop v33 k0_t1).trips), ∀ a, (k0_off66 v33 k0_t1 k0_t3) a + S1x16.size a ≤ S64x512.size a := fun i v33 k0_hw1 k0_t1 k0_t3 => k0_hw1.2.2.1.2.2.2.1 k0_t1 k0_t3
theorem k0_t4_ok : ∀ (i : grid0.Coords) (v33 : BitVec 32) (k0_hw1 : k0_chk1 i v33), (k0_t4_loop v33).OK := fun i v33 k0_hw1 => k0_hw1.2.2.1.2.2.2.2.1
theorem k0_off67_inb : ∀ (i : grid0.Coords) (v33 : BitVec 32) (k0_hw1 : k0_chk1 i v33) (k0_t4 : Fin (k0_t4_loop v33).trips), ∀ a, (k0_off67 i v33 k0_t4) a + S1x64x512.size a ≤ S16x2048x1024.size a := fun i v33 k0_hw1 k0_t4 => k0_hw1.2.2.1.2.2.2.2.2.1 k0_t4
theorem k0_t5_ok : ∀ (i : grid0.Coords) (v33 : BitVec 32) (k0_hw1 : k0_chk1 i v33) (k0_t4 : Fin (k0_t4_loop v33).trips), (k0_t5_loop v33 k0_t4).OK := fun i v33 k0_hw1 k0_t4 => k0_hw1.2.2.1.2.2.2.2.2.2.1 k0_t4
theorem k0_off68_inb : ∀ (i : grid0.Coords) (v33 : BitVec 32) (k0_hw1 : k0_chk1 i v33) (k0_t4 : Fin (k0_t4_loop v33).trips) (k0_t5 : Fin (k0_t5_loop v33 k0_t4).trips), ∀ a, (k0_off68 v33 k0_t4 k0_t5) a + S1x16.size a ≤ S64x512.size a := fun i v33 k0_hw1 k0_t4 k0_t5 => k0_hw1.2.2.1.2.2.2.2.2.2.2.1 k0_t4 k0_t5
theorem k0_off69_inb : ∀ (i : grid0.Coords) (v33 : BitVec 32) (k0_hw1 : k0_chk1 i v33) (k0_t4 : Fin (k0_t4_loop v33).trips) (k0_t5 : Fin (k0_t5_loop v33 k0_t4).trips), ∀ a, (k0_off69 v33 k0_t4 k0_t5) a + S1x16.size a ≤ S64x512.size a := fun i v33 k0_hw1 k0_t4 k0_t5 => k0_hw1.2.2.1.2.2.2.2.2.2.2.2.1 k0_t4 k0_t5
theorem k0_off70_inb : ∀ (i : grid0.Coords) (v33 : BitVec 32) (k0_hw1 : k0_chk1 i v33) (k0_t4 : Fin (k0_t4_loop v33).trips) (k0_t5 : Fin (k0_t5_loop v33 k0_t4).trips), ∀ a, (k0_off70 v33 k0_t4 k0_t5) a + S1x16.size a ≤ S64x512.size a := fun i v33 k0_hw1 k0_t4 k0_t5 => k0_hw1.2.2.1.2.2.2.2.2.2.2.2.2.1 k0_t4 k0_t5
theorem k0_off71_inb : ∀ (i : grid0.Coords) (v33 : BitVec 32) (k0_hw1 : k0_chk1 i v33) (k0_t4 : Fin (k0_t4_loop v33).trips) (k0_t5 : Fin (k0_t5_loop v33 k0_t4).trips), ∀ a, (k0_off71 v33 k0_t4 k0_t5) a + S1x16.size a ≤ S64x512.size a := fun i v33 k0_hw1 k0_t4 k0_t5 => k0_hw1.2.2.1.2.2.2.2.2.2.2.2.2.2.1 k0_t4 k0_t5
theorem k0_off72_inb : ∀ (i : grid0.Coords) (v33 : BitVec 32) (k0_hw1 : k0_chk1 i v33) (k0_t4 : Fin (k0_t4_loop v33).trips) (k0_t5 : Fin (k0_t5_loop v33 k0_t4).trips), ∀ a, (k0_off72 v33 k0_t4 k0_t5) a + S1x16.size a ≤ S64x512.size a := fun i v33 k0_hw1 k0_t4 k0_t5 => k0_hw1.2.2.1.2.2.2.2.2.2.2.2.2.2.2.1 k0_t4 k0_t5
theorem k0_off73_inb : ∀ (i : grid0.Coords) (v33 : BitVec 32) (k0_hw1 : k0_chk1 i v33) (k0_t4 : Fin (k0_t4_loop v33).trips) (k0_t5 : Fin (k0_t5_loop v33 k0_t4).trips), ∀ a, (k0_off73 v33 k0_t4 k0_t5) a + S1x16.size a ≤ S64x512.size a := fun i v33 k0_hw1 k0_t4 k0_t5 => k0_hw1.2.2.1.2.2.2.2.2.2.2.2.2.2.2.2.1 k0_t4 k0_t5
theorem k0_off74_inb : ∀ (i : grid0.Coords) (v33 : BitVec 32) (k0_hw1 : k0_chk1 i v33) (k0_t4 : Fin (k0_t4_loop v33).trips) (k0_t5 : Fin (k0_t5_loop v33 k0_t4).trips), ∀ a, (k0_off74 v33 k0_t4 k0_t5) a + S1x16.size a ≤ S64x512.size a := fun i v33 k0_hw1 k0_t4 k0_t5 => k0_hw1.2.2.1.2.2.2.2.2.2.2.2.2.2.2.2.2.1 k0_t4 k0_t5
theorem k0_off75_inb : ∀ (i : grid0.Coords) (v33 : BitVec 32) (k0_hw1 : k0_chk1 i v33) (k0_t4 : Fin (k0_t4_loop v33).trips) (k0_t5 : Fin (k0_t5_loop v33 k0_t4).trips), ∀ a, (k0_off75 v33 k0_t4 k0_t5) a + S1x16.size a ≤ S64x512.size a := fun i v33 k0_hw1 k0_t4 k0_t5 => k0_hw1.2.2.1.2.2.2.2.2.2.2.2.2.2.2.2.2.2.1 k0_t4 k0_t5
theorem k0_off76_inb : ∀ (i : grid0.Coords) (v33 : BitVec 32) (k0_hw1 : k0_chk1 i v33) (k0_t4 : Fin (k0_t4_loop v33).trips) (k0_t5 : Fin (k0_t5_loop v33 k0_t4).trips), ∀ a, (k0_off76 v33 k0_t4 k0_t5) a + S1x16.size a ≤ S64x512.size a := fun i v33 k0_hw1 k0_t4 k0_t5 => k0_hw1.2.2.1.2.2.2.2.2.2.2.2.2.2.2.2.2.2.2.1 k0_t4 k0_t5
theorem k0_off77_inb : ∀ (i : grid0.Coords) (v33 : BitVec 32) (k0_hw1 : k0_chk1 i v33) (k0_t4 : Fin (k0_t4_loop v33).trips) (k0_t5 : Fin (k0_t5_loop v33 k0_t4).trips), ∀ a, (k0_off77 v33 k0_t4 k0_t5) a + S1x16.size a ≤ S64x512.size a := fun i v33 k0_hw1 k0_t4 k0_t5 => k0_hw1.2.2.1.2.2.2.2.2.2.2.2.2.2.2.2.2.2.2.2.1 k0_t4 k0_t5
theorem k0_off78_inb : ∀ (i : grid0.Coords) (v33 : BitVec 32) (k0_hw1 : k0_chk1 i v33) (k0_t4 : Fin (k0_t4_loop v33).trips) (k0_t5 : Fin (k0_t5_loop v33 k0_t4).trips), ∀ a, (k0_off78 v33 k0_t4 k0_t5) a + S1x16.size a ≤ S64x512.size a := fun i v33 k0_hw1 k0_t4 k0_t5 => k0_hw1.2.2.1.2.2.2.2.2.2.2.2.2.2.2.2.2.2.2.2.2.1 k0_t4 k0_t5
theorem k0_off79_inb : ∀ (i : grid0.Coords) (v33 : BitVec 32) (k0_hw1 : k0_chk1 i v33) (k0_t4 : Fin (k0_t4_loop v33).trips) (k0_t5 : Fin (k0_t5_loop v33 k0_t4).trips), ∀ a, (k0_off79 v33 k0_t4 k0_t5) a + S1x16.size a ≤ S64x512.size a := fun i v33 k0_hw1 k0_t4 k0_t5 => k0_hw1.2.2.1.2.2.2.2.2.2.2.2.2.2.2.2.2.2.2.2.2.2.1 k0_t4 k0_t5
theorem k0_off80_inb : ∀ (i : grid0.Coords) (v33 : BitVec 32) (k0_hw1 : k0_chk1 i v33) (k0_t4 : Fin (k0_t4_loop v33).trips) (k0_t5 : Fin (k0_t5_loop v33 k0_t4).trips), ∀ a, (k0_off80 v33 k0_t4 k0_t5) a + S1x16.size a ≤ S64x512.size a := fun i v33 k0_hw1 k0_t4 k0_t5 => k0_hw1.2.2.1.2.2.2.2.2.2.2.2.2.2.2.2.2.2.2.2.2.2.2.1 k0_t4 k0_t5
theorem k0_off81_inb : ∀ (i : grid0.Coords) (v33 : BitVec 32) (k0_hw1 : k0_chk1 i v33) (k0_t4 : Fin (k0_t4_loop v33).trips) (k0_t5 : Fin (k0_t5_loop v33 k0_t4).trips), ∀ a, (k0_off81 v33 k0_t4 k0_t5) a + S1x16.size a ≤ S64x512.size a := fun i v33 k0_hw1 k0_t4 k0_t5 => k0_hw1.2.2.1.2.2.2.2.2.2.2.2.2.2.2.2.2.2.2.2.2.2.2.2.1 k0_t4 k0_t5
theorem k0_off82_inb : ∀ (i : grid0.Coords) (v33 : BitVec 32) (k0_hw1 : k0_chk1 i v33) (k0_t4 : Fin (k0_t4_loop v33).trips) (k0_t5 : Fin (k0_t5_loop v33 k0_t4).trips), ∀ a, (k0_off82 v33 k0_t4 k0_t5) a + S1x16.size a ≤ S64x512.size a := fun i v33 k0_hw1 k0_t4 k0_t5 => k0_hw1.2.2.1.2.2.2.2.2.2.2.2.2.2.2.2.2.2.2.2.2.2.2.2.2.1 k0_t4 k0_t5
theorem k0_off83_inb : ∀ (i : grid0.Coords) (v33 : BitVec 32) (k0_hw1 : k0_chk1 i v33) (k0_t4 : Fin (k0_t4_loop v33).trips) (k0_t5 : Fin (k0_t5_loop v33 k0_t4).trips), ∀ a, (k0_off83 v33 k0_t4 k0_t5) a + S1x16.size a ≤ S64x512.size a := fun i v33 k0_hw1 k0_t4 k0_t5 => k0_hw1.2.2.1.2.2.2.2.2.2.2.2.2.2.2.2.2.2.2.2.2.2.2.2.2.2.1 k0_t4 k0_t5
theorem k0_off84_inb : ∀ (i : grid0.Coords) (v33 : BitVec 32) (k0_hw1 : k0_chk1 i v33) (k0_t4 : Fin (k0_t4_loop v33).trips) (k0_t5 : Fin (k0_t5_loop v33 k0_t4).trips), ∀ a, (k0_off84 v33 k0_t4 k0_t5) a + S1x16.size a ≤ S64x512.size a := fun i v33 k0_hw1 k0_t4 k0_t5 => k0_hw1.2.2.1.2.2.2.2.2.2.2.2.2.2.2.2.2.2.2.2.2.2.2.2.2.2.2.1 k0_t4 k0_t5
theorem k0_off85_inb : ∀ (i : grid0.Coords) (v33 : BitVec 32) (k0_hw1 : k0_chk1 i v33) (k0_t4 : Fin (k0_t4_loop v33).trips) (k0_t5 : Fin (k0_t5_loop v33 k0_t4).trips), ∀ a, (k0_off85 v33 k0_t4 k0_t5) a + S1x16.size a ≤ S64x512.size a := fun i v33 k0_hw1 k0_t4 k0_t5 => k0_hw1.2.2.1.2.2.2.2.2.2.2.2.2.2.2.2.2.2.2.2.2.2.2.2.2.2.2.2.1 k0_t4 k0_t5
theorem k0_off86_inb : ∀ (i : grid0.Coords) (v33 : BitVec 32) (k0_hw1 : k0_chk1 i v33) (k0_t4 : Fin (k0_t4_loop v33).trips) (k0_t5 : Fin (k0_t5_loop v33 k0_t4).trips), ∀ a, (k0_off86 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.1 k0_t4 k0_t5
theorem k0_off87_inb : ∀ (i : grid0.Coords) (v33 : BitVec 32) (k0_hw1 : k0_chk1 i v33) (k0_t4 : Fin (k0_t4_loop v33).trips) (k0_t5 : Fin (k0_t5_loop v33 k0_t4).trips), ∀ a, (k0_off87 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.1 k0_t4 k0_t5
theorem k0_off88_inb : ∀ (i : grid0.Coords) (v33 : BitVec 32) (k0_hw1 : k0_chk1 i v33) (k0_t4 : Fin (k0_t4_loop v33).trips) (k0_t5 : Fin (k0_t5_loop v33 k0_t4).trips), ∀ a, (k0_off88 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.2.1 k0_t4 k0_t5
theorem k0_off89_inb : ∀ (i : grid0.Coords) (v33 : BitVec 32) (k0_hw1 : k0_chk1 i v33) (k0_t4 : Fin (k0_t4_loop v33).trips) (k0_t5 : Fin (k0_t5_loop v33 k0_t4).trips), ∀ a, (k0_off89 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.2.2.1 k0_t4 k0_t5
theorem k0_off90_inb : ∀ (i : grid0.Coords) (v33 : BitVec 32) (k0_hw1 : k0_chk1 i v33) (k0_t4 : Fin (k0_t4_loop v33).trips) (k0_t5 : Fin (k0_t5_loop v33 k0_t4).trips), ∀ a, (k0_off90 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.2.2.2.1 k0_t4 k0_t5
theorem k0_off91_inb : ∀ (i : grid0.Coords) (v33 : BitVec 32) (k0_hw1 : k0_chk1 i v33) (k0_t4 : Fin (k0_t4_loop v33).trips) (k0_t5 : Fin (k0_t5_loop v33 k0_t4).trips), ∀ a, (k0_off91 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.2.2.2.2.1 k0_t4 k0_t5
theorem k0_off92_inb : ∀ (i : grid0.Coords) (v33 : BitVec 32) (k0_hw1 : k0_chk1 i v33) (k0_t4 : Fin (k0_t4_loop v33).trips) (k0_t5 : Fin (k0_t5_loop v33 k0_t4).trips), ∀ a, (k0_off92 v33 k0_t4 k0_t5) a + S1x16.size a ≤ S64x512.size a := fun i v33 k0_hw1 k0_t4 k0_t5 => k0_hw1.2.2.1.2.2.2.2.2.2.2.2.2.2.2.2.2.2.2.2.2.2.2.2.2.2.2.2.2.2.2.2.2.2.2 k0_t4 k0_t5
theorem k0_off93_inb : ∀ (i : grid0.Coords) (v33 : BitVec 32) (k0_hw1 : k0_chk1 i v33) (k0_t4 : Fin (k0_t4_loop v33).trips) (k0_t5 : Fin (k0_t5_loop v33 k0_t4).trips), ∀ a, (k0_off93 v33 k0_t4 k0_t5) a + S1x16.size a ≤ S64x512.size a := fun i v33 k0_hw1 k0_t4 k0_t5 => k0_hw1.2.2.2.1.1 k0_t4 k0_t5
theorem k0_off94_inb : ∀ (i : grid0.Coords) (v33 : BitVec 32) (k0_hw1 : k0_chk1 i v33) (k0_t4 : Fin (k0_t4_loop v33).trips) (k0_t5 : Fin (k0_t5_loop v33 k0_t4).trips), ∀ a, (k0_off94 v33 k0_t4 k0_t5) a + S1x16.size a ≤ S64x512.size a := fun i v33 k0_hw1 k0_t4 k0_t5 => k0_hw1.2.2.2.1.2.1 k0_t4 k0_t5
theorem k0_off95_inb : ∀ (i : grid0.Coords) (v33 : BitVec 32) (k0_hw1 : k0_chk1 i v33) (k0_t4 : Fin (k0_t4_loop v33).trips) (k0_t5 : Fin (k0_t5_loop v33 k0_t4).trips), ∀ a, (k0_off95 v33 k0_t4 k0_t5) a + S1x16.size a ≤ S64x512.size a := fun i v33 k0_hw1 k0_t4 k0_t5 => k0_hw1.2.2.2.1.2.2.1 k0_t4 k0_t5
theorem k0_off96_inb : ∀ (i : grid0.Coords) (v33 : BitVec 32) (k0_hw1 : k0_chk1 i v33) (k0_t4 : Fin (k0_t4_loop v33).trips) (k0_t5 : Fin (k0_t5_loop v33 k0_t4).trips), ∀ a, (k0_off96 v33 k0_t4 k0_t5) a + S1x16.size a ≤ S64x512.size a := fun i v33 k0_hw1 k0_t4 k0_t5 => k0_hw1.2.2.2.1.2.2.2.1 k0_t4 k0_t5
theorem k0_off97_inb : ∀ (i : grid0.Coords) (v33 : BitVec 32) (k0_hw1 : k0_chk1 i v33) (k0_t4 : Fin (k0_t4_loop v33).trips) (k0_t5 : Fin (k0_t5_loop v33 k0_t4).trips), ∀ a, (k0_off97 v33 k0_t4 k0_t5) a + S1x16.size a ≤ S64x512.size a := fun i v33 k0_hw1 k0_t4 k0_t5 => k0_hw1.2.2.2.1.2.2.2.2.1 k0_t4 k0_t5
theorem k0_off98_inb : ∀ (i : grid0.Coords) (v33 : BitVec 32) (k0_hw1 : k0_chk1 i v33) (k0_t4 : Fin (k0_t4_loop v33).trips) (k0_t5 : Fin (k0_t5_loop v33 k0_t4).trips), ∀ a, (k0_off98 v33 k0_t4 k0_t5) a + S1x16.size a ≤ S64x512.size a := fun i v33 k0_hw1 k0_t4 k0_t5 => k0_hw1.2.2.2.1.2.2.2.2.2.1 k0_t4 k0_t5
theorem k0_off99_inb : ∀ (i : grid0.Coords) (v33 : BitVec 32) (k0_hw1 : k0_chk1 i v33) (k0_t4 : Fin (k0_t4_loop v33).trips) (k0_t5 : Fin (k0_t5_loop v33 k0_t4).trips), ∀ a, (k0_off99 v33 k0_t4 k0_t5) a + S1x16.size a ≤ S64x512.size a := fun i v33 k0_hw1 k0_t4 k0_t5 => k0_hw1.2.2.2.1.2.2.2.2.2.2.1 k0_t4 k0_t5
theorem k0_t6_ok : ∀ (i : grid0.Coords) (v33 : BitVec 32) (k0_hw1 : k0_chk1 i v33) (k0_t4 : Fin (k0_t4_loop v33).trips), (k0_t6_loop v33 k0_t4).OK := fun i v33 k0_hw1 k0_t4 => k0_hw1.2.2.2.1.2.2.2.2.2.2.2.1 k0_t4
theorem k0_off100_inb : ∀ (i : grid0.Coords) (v33 : BitVec 32) (k0_hw1 : k0_chk1 i v33) (k0_t4 : Fin (k0_t4_loop v33).trips) (k0_t6 : Fin (k0_t6_loop v33 k0_t4).trips), ∀ a, (k0_off100 v33 k0_t4 k0_t6) a + S1x16.size a ≤ S64x512.size a := fun i v33 k0_hw1 k0_t4 k0_t6 => k0_hw1.2.2.2.1.2.2.2.2.2.2.2.2.1 k0_t4 k0_t6
theorem k0_off101_inb : ∀ (i : grid0.Coords) (v33 : BitVec 32) (k0_hw1 : k0_chk1 i v33) (k0_t4 : Fin (k0_t4_loop v33).trips) (k0_t6 : Fin (k0_t6_loop v33 k0_t4).trips), ∀ a, (k0_off101 v33 k0_t4 k0_t6) a + S1x16.size a ≤ S64x512.size a := fun i v33 k0_hw1 k0_t4 k0_t6 => k0_hw1.2.2.2.1.2.2.2.2.2.2.2.2.2.1 k0_t4 k0_t6
theorem k0_off102_inb : ∀ (i : grid0.Coords) (v33 : BitVec 32) (k0_hw1 : k0_chk1 i v33) (k0_t4 : Fin (k0_t4_loop v33).trips) (k0_t6 : Fin (k0_t6_loop v33 k0_t4).trips), ∀ a, (k0_off102 v33 k0_t4 k0_t6) a + S1x16.size a ≤ S64x512.size a := fun i v33 k0_hw1 k0_t4 k0_t6 => k0_hw1.2.2.2.1.2.2.2.2.2.2.2.2.2.2.1 k0_t4 k0_t6
theorem k0_off103_inb : ∀ (i : grid0.Coords) (v33 : BitVec 32) (k0_hw1 : k0_chk1 i v33) (k0_t4 : Fin (k0_t4_loop v33).trips) (k0_t6 : Fin (k0_t6_loop v33 k0_t4).trips), ∀ a, (k0_off103 v33 k0_t4 k0_t6) a + S1x16.size a ≤ S64x512.size a := fun i v33 k0_hw1 k0_t4 k0_t6 => k0_hw1.2.2.2.1.2.2.2.2.2.2.2.2.2.2.2.1 k0_t4 k0_t6
theorem k0_off104_inb : ∀ (i : grid0.Coords) (v33 : BitVec 32) (k0_hw1 : k0_chk1 i v33) (k0_t4 : Fin (k0_t4_loop v33).trips) (k0_t6 : Fin (k0_t6_loop v33 k0_t4).trips), ∀ a, (k0_off104 v33 k0_t4 k0_t6) a + S1x16.size a ≤ S64x512.size a := fun i v33 k0_hw1 k0_t4 k0_t6 => k0_hw1.2.2.2.1.2.2.2.2.2.2.2.2.2.2.2.2.1 k0_t4 k0_t6
theorem k0_off105_inb : ∀ (i : grid0.Coords) (v33 : BitVec 32) (k0_hw1 : k0_chk1 i v33) (k0_t4 : Fin (k0_t4_loop v33).trips) (k0_t6 : Fin (k0_t6_loop v33 k0_t4).trips), ∀ a, (k0_off105 v33 k0_t4 k0_t6) a + S1x16.size a ≤ S64x512.size a := fun i v33 k0_hw1 k0_t4 k0_t6 => k0_hw1.2.2.2.1.2.2.2.2.2.2.2.2.2.2.2.2.2.1 k0_t4 k0_t6
theorem k0_off106_inb : ∀ (i : grid0.Coords) (v33 : BitVec 32) (k0_hw1 : k0_chk1 i v33) (k0_t4 : Fin (k0_t4_loop v33).trips) (k0_t6 : Fin (k0_t6_loop v33 k0_t4).trips), ∀ a, (k0_off106 v33 k0_t4 k0_t6) a + S1x16.size a ≤ S64x512.size a := fun i v33 k0_hw1 k0_t4 k0_t6 => k0_hw1.2.2.2.1.2.2.2.2.2.2.2.2.2.2.2.2.2.2.1 k0_t4 k0_t6
theorem k0_off107_inb : ∀ (i : grid0.Coords) (v33 : BitVec 32) (k0_hw1 : k0_chk1 i v33) (k0_t4 : Fin (k0_t4_loop v33).trips) (k0_t6 : Fin (k0_t6_loop v33 k0_t4).trips), ∀ a, (k0_off107 v33 k0_t4 k0_t6) a + S1x16.size a ≤ S64x512.size a := fun i v33 k0_hw1 k0_t4 k0_t6 => k0_hw1.2.2.2.1.2.2.2.2.2.2.2.2.2.2.2.2.2.2.2.1 k0_t4 k0_t6
theorem k0_off108_inb : ∀ (i : grid0.Coords) (v33 : BitVec 32) (k0_hw1 : k0_chk1 i v33) (k0_t4 : Fin (k0_t4_loop v33).trips) (k0_t6 : Fin (k0_t6_loop v33 k0_t4).trips), ∀ a, (k0_off108 v33 k0_t4 k0_t6) a + S1x16.size a ≤ S64x512.size a := fun i v33 k0_hw1 k0_t4 k0_t6 => k0_hw1.2.2.2.1.2.2.2.2.2.2.2.2.2.2.2.2.2.2.2.2.1 k0_t4 k0_t6
theorem k0_off109_inb : ∀ (i : grid0.Coords) (v33 : BitVec 32) (k0_hw1 : k0_chk1 i v33) (k0_t4 : Fin (k0_t4_loop v33).trips) (k0_t6 : Fin (k0_t6_loop v33 k0_t4).trips), ∀ a, (k0_off109 v33 k0_t4 k0_t6) a + S1x16.size a ≤ S64x512.size a := fun i v33 k0_hw1 k0_t4 k0_t6 => k0_hw1.2.2.2.1.2.2.2.2.2.2.2.2.2.2.2.2.2.2.2.2.2.1 k0_t4 k0_t6
theorem k0_off110_inb : ∀ (i : grid0.Coords) (v33 : BitVec 32) (k0_hw1 : k0_chk1 i v33) (k0_t4 : Fin (k0_t4_loop v33).trips) (k0_t6 : Fin (k0_t6_loop v33 k0_t4).trips), ∀ a, (k0_off110 v33 k0_t4 k0_t6) a + S1x16.size a ≤ S64x512.size a := fun i v33 k0_hw1 k0_t4 k0_t6 => k0_hw1.2.2.2.1.2.2.2.2.2.2.2.2.2.2.2.2.2.2.2.2.2.2.1 k0_t4 k0_t6
theorem k0_off111_inb : ∀ (i : grid0.Coords) (v33 : BitVec 32) (k0_hw1 : k0_chk1 i v33) (k0_t4 : Fin (k0_t4_loop v33).trips) (k0_t6 : Fin (k0_t6_loop v33 k0_t4).trips), ∀ a, (k0_off111 v33 k0_t4 k0_t6) a + S1x16.size a ≤ S64x512.size a := fun i v33 k0_hw1 k0_t4 k0_t6 => k0_hw1.2.2.2.1.2.2.2.2.2.2.2.2.2.2.2.2.2.2.2.2.2.2.2.1 k0_t4 k0_t6
theorem k0_off112_inb : ∀ (i : grid0.Coords) (v33 : BitVec 32) (k0_hw1 : k0_chk1 i v33) (k0_t4 : Fin (k0_t4_loop v33).trips) (k0_t6 : Fin (k0_t6_loop v33 k0_t4).trips), ∀ a, (k0_off112 v33 k0_t4 k0_t6) a + S1x16.size a ≤ S64x512.size a := fun i v33 k0_hw1 k0_t4 k0_t6 => k0_hw1.2.2.2.1.2.2.2.2.2.2.2.2.2.2.2.2.2.2.2.2.2.2.2.2.1 k0_t4 k0_t6
theorem k0_off113_inb : ∀ (i : grid0.Coords) (v33 : BitVec 32) (k0_hw1 : k0_chk1 i v33) (k0_t4 : Fin (k0_t4_loop v33).trips) (k0_t6 : Fin (k0_t6_loop v33 k0_t4).trips), ∀ a, (k0_off113 v33 k0_t4 k0_t6) a + S1x16.size a ≤ S64x512.size a := fun i v33 k0_hw1 k0_t4 k0_t6 => k0_hw1.2.2.2.1.2.2.2.2.2.2.2.2.2.2.2.2.2.2.2.2.2.2.2.2.2.1 k0_t4 k0_t6
theorem k0_off114_inb : ∀ (i : grid0.Coords) (v33 : BitVec 32) (k0_hw1 : k0_chk1 i v33) (k0_t4 : Fin (k0_t4_loop v33).trips) (k0_t6 : Fin (k0_t6_loop v33 k0_t4).trips), ∀ a, (k0_off114 v33 k0_t4 k0_t6) a + S1x16.size a ≤ S64x512.size a := fun i v33 k0_hw1 k0_t4 k0_t6 => k0_hw1.2.2.2.1.2.2.2.2.2.2.2.2.2.2.2.2.2.2.2.2.2.2.2.2.2.2.1 k0_t4 k0_t6
theorem k0_off115_inb : ∀ (i : grid0.Coords) (v33 : BitVec 32) (k0_hw1 : k0_chk1 i v33) (k0_t4 : Fin (k0_t4_loop v33).trips) (k0_t6 : Fin (k0_t6_loop v33 k0_t4).trips), ∀ a, (k0_off115 v33 k0_t4 k0_t6) a + S1x16.size a ≤ S64x512.size a := fun i v33 k0_hw1 k0_t4 k0_t6 => k0_hw1.2.2.2.1.2.2.2.2.2.2.2.2.2.2.2.2.2.2.2.2.2.2.2.2.2.2.2.1 k0_t4 k0_t6
theorem k0_off116_inb : ∀ (i : grid0.Coords) (v33 : BitVec 32) (k0_hw1 : k0_chk1 i v33) (k0_t4 : Fin (k0_t4_loop v33).trips) (k0_t6 : Fin (k0_t6_loop v33 k0_t4).trips), ∀ a, (k0_off116 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.1 k0_t4 k0_t6
theorem k0_off117_inb : ∀ (i : grid0.Coords) (v33 : BitVec 32) (k0_hw1 : k0_chk1 i v33) (k0_t4 : Fin (k0_t4_loop v33).trips) (k0_t6 : Fin (k0_t6_loop v33 k0_t4).trips), ∀ a, (k0_off117 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.1 k0_t4 k0_t6
theorem k0_off118_inb : ∀ (i : grid0.Coords) (v33 : BitVec 32) (k0_hw1 : k0_chk1 i v33) (k0_t4 : Fin (k0_t4_loop v33).trips) (k0_t6 : Fin (k0_t6_loop v33 k0_t4).trips), ∀ a, (k0_off118 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.1 k0_t4 k0_t6
theorem k0_off119_inb : ∀ (i : grid0.Coords) (v33 : BitVec 32) (k0_hw1 : k0_chk1 i v33) (k0_t4 : Fin (k0_t4_loop v33).trips) (k0_t6 : Fin (k0_t6_loop v33 k0_t4).trips), ∀ a, (k0_off119 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.2.1 k0_t4 k0_t6
theorem k0_off120_inb : ∀ (i : grid0.Coords) (v33 : BitVec 32) (k0_hw1 : k0_chk1 i v33) (k0_t4 : Fin (k0_t4_loop v33).trips) (k0_t6 : Fin (k0_t6_loop v33 k0_t4).trips), ∀ a, (k0_off120 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.2.2.1 k0_t4 k0_t6
theorem k0_off121_inb : ∀ (i : grid0.Coords) (v33 : BitVec 32) (k0_hw1 : k0_chk1 i v33) (k0_t4 : Fin (k0_t4_loop v33).trips) (k0_t6 : Fin (k0_t6_loop v33 k0_t4).trips), ∀ a, (k0_off121 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.2.2.2.1 k0_t4 k0_t6
theorem k0_off122_inb : ∀ (i : grid0.Coords) (v33 : BitVec 32) (k0_hw1 : k0_chk1 i v33) (k0_t4 : Fin (k0_t4_loop v33).trips) (k0_t6 : Fin (k0_t6_loop v33 k0_t4).trips), ∀ a, (k0_off122 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.2.2.2.2.1 k0_t4 k0_t6
theorem k0_off123_inb : ∀ (i : grid0.Coords) (v33 : BitVec 32) (k0_hw1 : k0_chk1 i v33) (k0_t4 : Fin (k0_t4_loop v33).trips) (k0_t6 : Fin (k0_t6_loop v33 k0_t4).trips), ∀ a, (k0_off123 v33 k0_t4 k0_t6) a + S1x16.size a ≤ S64x512.size a := fun i v33 k0_hw1 k0_t4 k0_t6 => k0_hw1.2.2.2.1.2.2.2.2.2.2.2.2.2.2.2.2.2.2.2.2.2.2.2.2.2.2.2.2.2.2.2.2.2.2.2 k0_t4 k0_t6
theorem k0_off124_inb : ∀ (i : grid0.Coords) (v33 : BitVec 32) (k0_hw1 : k0_chk1 i v33) (k0_t4 : Fin (k0_t4_loop v33).trips) (k0_t6 : Fin (k0_t6_loop v33 k0_t4).trips), ∀ a, (k0_off124 v33 k0_t4 k0_t6) a + S1x16.size a ≤ S64x512.size a := fun i v33 k0_hw1 k0_t4 k0_t6 => k0_hw1.2.2.2.2.1 k0_t4 k0_t6
theorem k0_off125_inb : ∀ (i : grid0.Coords) (v33 : BitVec 32) (k0_hw1 : k0_chk1 i v33) (k0_t4 : Fin (k0_t4_loop v33).trips) (k0_t6 : Fin (k0_t6_loop v33 k0_t4).trips), ∀ a, (k0_off125 v33 k0_t4 k0_t6) a + S1x16.size a ≤ S64x512.size a := fun i v33 k0_hw1 k0_t4 k0_t6 => k0_hw1.2.2.2.2.2.1 k0_t4 k0_t6
theorem k0_off126_inb : ∀ (i : grid0.Coords) (v33 : BitVec 32) (k0_hw1 : k0_chk1 i v33) (k0_t4 : Fin (k0_t4_loop v33).trips) (k0_t6 : Fin (k0_t6_loop v33 k0_t4).trips), ∀ a, (k0_off126 v33 k0_t4 k0_t6) a + S1x16.size a ≤ S64x512.size a := fun i v33 k0_hw1 k0_t4 k0_t6 => k0_hw1.2.2.2.2.2.2.1 k0_t4 k0_t6
theorem k0_off127_inb : ∀ (i : grid0.Coords) (v33 : BitVec 32) (k0_hw1 : k0_chk1 i v33) (k0_t4 : Fin (k0_t4_loop v33).trips) (k0_t6 : Fin (k0_t6_loop v33 k0_t4).trips), ∀ a, (k0_off127 v33 k0_t4 k0_t6) a + S1x16.size a ≤ S64x512.size a := fun i v33 k0_hw1 k0_t4 k0_t6 => k0_hw1.2.2.2.2.2.2.2.1 k0_t4 k0_t6
theorem k0_off128_inb : ∀ (i : grid0.Coords) (v33 : BitVec 32) (k0_hw1 : k0_chk1 i v33) (k0_t4 : Fin (k0_t4_loop v33).trips) (k0_t6 : Fin (k0_t6_loop v33 k0_t4).trips), ∀ a, (k0_off128 v33 k0_t4 k0_t6) a + S1x16.size a ≤ S64x512.size a := fun i v33 k0_hw1 k0_t4 k0_t6 => k0_hw1.2.2.2.2.2.2.2.2.1 k0_t4 k0_t6
theorem k0_off129_inb : ∀ (i : grid0.Coords) (v33 : BitVec 32) (k0_hw1 : k0_chk1 i v33) (k0_t4 : Fin (k0_t4_loop v33).trips) (k0_t6 : Fin (k0_t6_loop v33 k0_t4).trips), ∀ a, (k0_off129 v33 k0_t4 k0_t6) a + S1x16.size a ≤ S64x512.size a := fun i v33 k0_hw1 k0_t4 k0_t6 => k0_hw1.2.2.2.2.2.2.2.2.2.1 k0_t4 k0_t6
theorem k0_off130_inb : ∀ (i : grid0.Coords) (v33 : BitVec 32) (k0_hw1 : k0_chk1 i v33) (k0_t4 : Fin (k0_t4_loop v33).trips) (k0_t6 : Fin (k0_t6_loop v33 k0_t4).trips), ∀ a, (k0_off130 v33 k0_t4 k0_t6) a + S1x16.size a ≤ S64x512.size a := fun i v33 k0_hw1 k0_t4 k0_t6 => k0_hw1.2.2.2.2.2.2.2.2.2.2.1 k0_t4 k0_t6
theorem k0_off131_inb : ∀ (i : grid0.Coords) (v33 : BitVec 32) (k0_hw1 : k0_chk1 i v33) (k0_t4 : Fin (k0_t4_loop v33).trips) (k0_t6 : Fin (k0_t6_loop v33 k0_t4).trips), ∀ a, (k0_off131 v33 k0_t4 k0_t6) a + S1x16.size a ≤ S64x512.size a := fun i v33 k0_hw1 k0_t4 k0_t6 => k0_hw1.2.2.2.2.2.2.2.2.2.2.2 k0_t4 k0_t6

def k0_off132 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048x1024 : Shape := ⟨3, ![16, 2048, 1024]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S16x2048x1 : Shape := ⟨3, ![16, 2048, 1]⟩
abbrev S_ : Shape := ⟨0, ![]⟩
abbrev S16x1024 : Shape := ⟨2, ![16, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S2048, .i32⟩
  | .hbm, ⟨3, _⟩ => ⟨S1x2048, .i32⟩
  | .hbm, ⟨4, _⟩ => ⟨S16x1, .i32⟩
  | .hbm, ⟨5, _⟩ => ⟨S16x2048, .i32⟩
  | .hbm, ⟨6, _⟩ => ⟨S16x2048, .i32⟩
  | .hbm, ⟨7, _⟩ => ⟨S16x2048, .i1⟩
  | .hbm, ⟨8, _⟩ => ⟨S16x2048, .f32⟩
  | .hbm, ⟨9, _⟩ => ⟨S16x2048x1, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x1024, .f32⟩
  | .hbm, ⟨14, _⟩ => ⟨S16x1, .i32⟩
  | .hbm, ⟨15, _⟩ => ⟨S16x1, .f32⟩
  | .hbm, ⟨16, _⟩ => ⟨S16x1024, .f32⟩
  | .hbm, ⟨17, _⟩ => ⟨S16x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Pre.lean ====
/-
  What the precondition says: every length, read as a natural number, is at least 1 and at most 2047.
-/
module

public import proofs.«01_k».proof.Proof.Gen.Pre_lens_in_range
public import Idealize.ShloMosaic.Lib.ReduceAll
public import Idealize.ShloMosaic.Lib.ValueIdxCore

@[expose] public section

noncomputable section

namespace Cert.Proof.Pre

open Cert.Pre_lens_in_range Idealize.ShloMosaic

/-- Two comparison bits whose conjunction is one are both one. -/
theorem both {p q : Bool} (h : IntOp.andi (BitVec.ofBool p) (BitVec.ofBool q) = 1#1) : p = true ∧ q = true := by
  cases p <;> cases q <;> revert h <;> decide

/-- A word that compares, signed, at least 1 and below 2048 is that as a natural number. -/
theorem range_of_bits {v : BitVec 32} (h : IntOp.andi (IntOp.cmpi .sge v 1#32) (IntOp.cmpi .slt v 2048#32) = 1#1) :
    1 ≤ v.toNat ∧ v.toNat ≤ 2047 := by
  obtain ⟨lo, hi⟩ : (1#32).sle v = true ∧ v.slt 2048#32 = true := both h
  have h1 : (1#32).toInt = 1 := by decide
  have h2 : (2048#32).toInt = 2048 := by decide
  rw [BitVec.sle_eq_decide, decide_eq_true_eq, h1] at lo
  rw [BitVec.slt_eq_decide, decide_eq_true_eq, h2] at hi
  have h3 := BitVec.toInt_eq_toNat_cond (x := v)
  have h4 := v.isLt
  split at h3 <;> omega

variable {F : FTy → Type} [FloatOps F]

/-- Under the precondition every length is between 1 and 2047. -/
theorem lens_range (x : FVec F S16x2048x1024 .f32) (l : IVec S16 32) (h : fn x l = fun _ => 1#1) (j : S16.Idx) :
    1 ≤ (l j).toNat ∧ (l j).toNat ≤ 2047 := by
  have e := congrFun h ValueIdx.ix0
  dsimp only [fn] at e
  exact range_of_bits (Host.reduce_andi_all _ _ _ _ _ e j)

end Cert.Proof.Pre

end
-- ==== Proof.Kernel.Frame.lean ====
/-
  Under the precondition the program runs, ends with its counters at zero, and leaves its arguments as they were.
-/
module

public import proofs.«01_k».proof.Defs
public import proofs.«01_k».proof.Proof.Kernel.Launch
public import proofs.«01_k».proof.Proof.Pre

@[expose] public section

noncomputable section

namespace Cert.Proof.KB

open Cert.Kernel Cert.Kernel.Gen
open Idealize.ShloMosaic Idealize.SL.Sem

/-- The precondition gives every length its bounds. -/
theorem lens_of_pre (m : (ℓ : Loc nD τ sig) → Buf (Elt Bits) ℓ) (h : Cert.Pre_Kernel m) : Lens (F := Bits) m := fun d j =>
  have r := Pre.lens_range _ _ (h d) j
  ⟨r.1, r.2⟩

/-- `Cert.quiescent_Kernel` (Defs.lean). -/
theorem frame : Cert.quiescent_Kernel := fun m ρ hpre =>
  (θ_run Cert.Kernel.defs _ _).mono (fun _ h => ⟨fun c => (h.1 c).2, h.2⟩) (run_main (F := Bits) m ρ (lens_of_pre m hpre))

end Cert.Proof.KB

end
-- ==== Proof.KernelIdeal.Words.lean ====
/-
  The integer words of the SparseCore kernel, for a segment length `n` with `1 ≤ n ≤ 2047`: how many trips each counted
  loop makes, which offsets each slice and each load takes, and that the run-time check on the length passes.

  * the chunk loop makes `(n + 63) / 64` trips, chunk `t` copying rows `64 t … 64 t + 63` of the tile's batch entry;
  * the row loop of chunk `t` makes `min 64 (n - 64 t)` trips, trip `r` reading row `r` of the chunk, 16 lanes at a time;
  * the two remainder loops make no trip.
-/
module

public import proofs.«01_k».proof.Defs
public import proofs.«01_k».proof.Proof.Gen.KernelIdeal
public import proofs.«01_k».proof.Proof.Gen.KernelIdeal.Skeleton
public import Idealize.ShloMosaic.Lib.Affine
public import Idealize.ShloMosaic.Lib.LoopRemainder

@[expose] public section

namespace Cert.Proof.KI

open Cert.KernelIdeal Cert.KernelIdeal.Gen
open Idealize.ShloMosaic
open Idealize.ShloMosaic.Affine

/-- A literal word is its own number. -/
theorem lit (n : ℕ) (h : n < 2 ^ 31) : IsInt (BitVec.ofNat 32 n) (n : ℤ) := Affine.ofNat n ⟨rfl, h⟩

/-- The length word of a segment, as the kernel may use it: between 1 and 2047. -/
structure Len (v : BitVec 32) : Prop where
  pos : 1 ≤ v.toNat
  le : v.toNat ≤ 2047

theorem Len.isInt {v : BitVec 32} (h : Len v) : IsInt v (v.toNat : ℤ) := by
  have e : v = BitVec.ofNat 32 v.toNat := by simp
  rw [e]; simpa using lit v.toNat (by have := h.le; omega)

/-! ## The chunk loop -/

/-- The kernel's rounded-up quotient of the length by 64. -/
theorem chunks_isInt {v : BitVec 32} (h : Len v) : IsInt (k0_t1_loop v).ub (((v.toNat + 63) / 64 : ℕ) : ℤ) := by
  have hp := h.pos
  have hl := h.le
  have one := lit 1 (by decide)
  have zero := lit 0 (by decide)
  have c64 := lit 64 (by decide)
  have a := Affine.addi (e := v.toNat + 64) h.isInt c64 (by omega)
  have b := Affine.subi (e := v.toNat + 63) a one (by omega)
  have q := Affine.divsi (e := ((v.toNat + 63) / 64 : ℕ)) b c64 (by omega)
  have s1 := Affine.subi (e := 1) (Affine.extui_holds (e := 1) (Affine.sgt_holds b zero (by omega)) rfl)
    (Affine.extui_fails (e := 0) (Affine.slt_fails b zero (by omega)) rfl) (by omega)
  have s2 := Affine.subi (e := 1) (Affine.extui_holds (e := 1) (Affine.sgt_holds c64 zero (by omega)) rfl)
    (Affine.extui_fails (e := 0) (Affine.slt_fails c64 zero (by omega)) rfl) (by omega)
  have w := Affine.select_fails (e := ((v.toNat + 63) / 64 : ℕ))
    (Affine.andi_fails_left (d := Scalar.cmpi .ne (Scalar.remsi (Scalar.subi (Scalar.addi v 64#32) 1#32) 64#32) 0#32)
      (Affine.ne_fails s1 s2 rfl) trivial)
    (Affine.subi (e := ((v.toNat + 63) / 64 : ℕ) - 1) q one (by omega)) q rfl
  exact Affine.addi zero (Affine.muli (e := ((v.toNat + 63) / 64 : ℕ)) (Affine.divsi_one (Affine.subi (e := ((v.toNat + 63) / 64 : ℕ)) w zero
    (by omega)) one ⟨rfl, rfl⟩) one (by omega)) (by omega)

theorem t1_trips {v : BitVec 32} (h : Len v) : (k0_t1_loop v).trips = (v.toNat + 63) / 64 :=
  Affine.trips_eq (lit 0 (by decide)) (chunks_isInt h) (lit 1 (by decide)) _ (by omega)

theorem t1_ok {v : BitVec 32} (h : Len v) : (k0_t1_loop v).OK :=
  Affine.ok (lit 0 (by decide)) (chunks_isInt h) (lit 1 (by decide)) (by have := h.le; omega)

/-- Every chunk starts below the length. -/
theorem t1_lt {v : BitVec 32} (h : Len v) (t : Fin (k0_t1_loop v).trips) : 64 * t.val < v.toNat := by
  have := t.isLt; have := t1_trips h; have := h.pos; omega

/-- The induction variable of trip `k` of a loop from 0 by steps of 1. -/
theorem iv_isInt (k : ℕ) (hk : k < 2 ^ 31) : IsInt (Scf.iv 0#32 1#32 k) (k : ℤ) :=
  Affine.iv (lit 0 (by decide)) (lit 1 (by decide)) k (by omega)

/-- Chunk `t`'s first row. -/
theorem start_isInt {v : BitVec 32} (h : Len v) (t : Fin (k0_t1_loop v).trips) :
    IsInt (Scalar.muli (Scf.iv 0#32 1#32 t.val) 64#32) ((64 * t.val : ℕ) : ℤ) := by
  have := t1_lt h t; have := h.le
  exact Affine.muli (iv_isInt t.val (by omega)) (lit 64 (by decide)) (by omega)

/-- The clamp of a chunk's first row at 1984 changes nothing: a length is below 2048. -/
theorem clamp_isInt {v : BitVec 32} (h : Len v) (t : Fin (k0_t1_loop v).trips) :
    IsInt (Scalar.minsi (Scalar.muli (Scf.iv 0#32 1#32 t.val) 64#32) 1984#32) ((64 * t.val : ℕ) : ℤ) := by
  have := t1_lt h t; have := h.le
  exact Affine.minsi (start_isInt h t) (lit 1984 (by decide)) (by omega)

/-! ## The row loop of a chunk -/

theorem rows_isInt {v : BitVec 32} (h : Len v) (t : Fin (k0_t1_loop v).trips) :
    IsInt (k0_t2_loop v t).ub ((min 64 (v.toNat - 64 * t.val) : ℕ) : ℤ) := by
  have := t1_lt h t; have := h.le
  have zero := lit 0 (by decide)
  have one := lit 1 (by decide)
  have a := Affine.minsi (e := (min 64 (v.toNat - 64 * t.val) : ℕ)) (lit 64 (by decide))
    (Affine.subi (e := (v.toNat - 64 * t.val : ℕ)) h.isInt (start_isInt h t) (by omega)) (by omega)
  exact Affine.addi zero (Affine.muli (e := (min 64 (v.toNat - 64 * t.val) : ℕ)) (Affine.divsi_one
    (Affine.subi (e := (min 64 (v.toNat - 64 * t.val) : ℕ)) a zero (by omega)) one ⟨rfl, rfl⟩) one (by omega)) (by omega)

theorem t2_trips {v : BitVec 32} (h : Len v) (t : Fin (k0_t1_loop v).trips) :
    (k0_t2_loop v t).trips = min 64 (v.toNat - 64 * t.val) :=
  Affine.trips_eq (lit 0 (by decide)) (rows_isInt h t) (lit 1 (by decide)) _ (by omega)

theorem t2_ok {v : BitVec 32} (h : Len v) (t : Fin (k0_t1_loop v).trips) : (k0_t2_loop v t).OK :=
  Affine.ok (lit 0 (by decide)) (rows_isInt h t) (lit 1 (by decide)) (by omega)

theorem t2_lt {v : BitVec 32} (h : Len v) (t : Fin (k0_t1_loop v).trips) (r : Fin (k0_t2_loop v t).trips) :
    r.val < 64 ∧ 64 * t.val + r.val < v.toNat := by
  have := r.isLt; have := t2_trips h t; have := t1_lt h t; omega

/-- Row `r` of a chunk is its own row of the chunk's buffer. -/
theorem row_isInt {v : BitVec 32} (h : Len v) (t : Fin (k0_t1_loop v).trips) (r : Fin (k0_t2_loop v t).trips) :
    IsInt (Scalar.indexCast (Scalar.addi (Scalar.subi (Scalar.muli (Scf.iv 0#32 1#32 t.val) 64#32)
      (Scalar.minsi (Scalar.muli (Scf.iv 0#32 1#32 t.val) 64#32) 1984#32)) (Scf.iv 0#32 1#32 r.val))) (r.val : ℤ) := by
  have := t2_lt h t r
  exact Affine.indexCast (Affine.addi (Affine.subi (e := 0) (start_isInt h t) (clamp_isInt h t) (by omega))
    (iv_isInt r.val (by omega)) (by omega))

/-- Loads of a trip of the row loop: row `r` of the chunk's buffer, 16 lanes from column `c`. -/
theorem row_off {v : BitVec 32} (h : Len v) (t : Fin (k0_t1_loop v).trips) (r : Fin (k0_t2_loop v t).trips) (c : ℕ) :
    (![(Scalar.indexCast (Scalar.addi (Scalar.subi (Scalar.muli (Scf.iv 0#32 1#32 t.val) 64#32)
      (Scalar.minsi (Scalar.muli (Scf.iv 0#32 1#32 t.val) 64#32) 1984#32)) (Scf.iv 0#32 1#32 r.val)) : BitVec 32).toNat, c] : Fin 2 → ℕ)
      = ![r.val, c] :=
  Affine.vec_cons (row_isInt h t r) rfl rfl

theorem row_inb {v : BitVec 32} (h : Len v) (t : Fin (k0_t1_loop v).trips) (r : Fin (k0_t2_loop v t).trips) (c : ℕ) (hc : c + 16 ≤ 512) :
    ∀ a, (![(Scalar.indexCast (Scalar.addi (Scalar.subi (Scalar.muli (Scf.iv 0#32 1#32 t.val) 64#32)
      (Scalar.minsi (Scalar.muli (Scf.iv 0#32 1#32 t.val) 64#32) 1984#32)) (Scf.iv 0#32 1#32 r.val)) : BitVec 32).toNat, c] : Fin 2 → ℕ) a
      + S1x16.size a ≤ S64x512.size a := by
  rw [row_off h t r c]
  have := t2_lt h t r
  intro a
  match a with
  | 0 => show r.val + 1 ≤ 64; omega
  | 1 => exact hc

/-! ## The slice of the input a chunk copies, and of the result -/

/-- The batch entry and the column half of a tile: tile `(c, s)` has entry `8 c + s / 2`, columns from `512 (s % 2)`. -/
theorem out_off : ∀ i : grid0.Coords, k0_off132 i = ![8 * (i 0).val + (i 1).val / 2, 512 * ((i 1).val % 2)] := by
  decide +kernel

theorem chunk_off {v : BitVec 32} (h : Len v) (i : grid0.Coords) (t : Fin (k0_t1_loop v).trips) :
    k0_off2 i v t = ![8 * (i 0).val + (i 1).val / 2, 64 * t.val, 512 * ((i 1).val % 2)] := by
  have e : k0_off2 i v t = ![k0_off132 i 0, (Scalar.minsi (Scalar.muli (Scf.iv 0#32 1#32 t.val) 64#32) 1984#32).toNat, k0_off132 i 1] := rfl
  have w := Affine.toNat_of (clamp_isInt h t) (by omega)
  rw [e, out_off i]
  funext a
  match a with
  | 0 => rfl
  | 1 => exact_mod_cast w
  | 2 => rfl

theorem chunk_inb {v : BitVec 32} (h : Len v) (i : grid0.Coords) (t : Fin (k0_t1_loop v).trips) :
    ∀ a, k0_off2 i v t a + S1x64x512.size a ≤ S16x2048x1024.size a := by
  rw [chunk_off h i t]
  have := t1_lt h t; have := h.le
  have h0 : (i 0).val < 2 := (i 0).isLt
  have h1 : (i 1).val < 16 := (i 1).isLt
  intro a
  match a with
  | 0 => show 8 * (i 0).val + (i 1).val / 2 + 1 ≤ 16; omega
  | 1 => show 64 * t.val + 64 ≤ 2048; omega
  | 2 => show 512 * ((i 1).val % 2) + 512 ≤ 1024; omega

/-! ## The remainder loops make no trip -/

theorem t3_no {v : BitVec 32} (t : Fin (k0_t1_loop v).trips) (r : Fin (k0_t3_loop v t).trips) : False := Scf.rem_no_trip _ _ r
theorem t4_no {v : BitVec 32} (t : Fin (k0_t4_loop v).trips) : False := Scf.rem_no_trip _ _ t

/-- The kernel's check of a length passes: every loop it starts is well formed, every slice and load in bounds. -/
theorem chk {v : BitVec 32} (h : Len v) (i : grid0.Coords) : k0_chk1 i v := by
  have row (c : ℕ) (hc : c + 16 ≤ 512) (t : Fin (k0_t1_loop v).trips) (r : Fin (k0_t2_loop v t).trips) := row_inb h t r c hc
  refine ⟨⟨t1_ok h, chunk_inb h i, t2_ok h, ?_⟩, ⟨?_, ?_, ?_, fun t => Scf.rem_ok _ _, ?_⟩,
    ⟨?_, ?_, ?_, ?_, Scf.rem_ok _ _, ?_⟩, ?_, ?_⟩
  · repeat' apply And.intro
    all_goals exact row _ (by decide)
  · exact row _ (by decide)
  · exact row _ (by decide)
  · exact row _ (by decide)
  · repeat' apply And.intro
    all_goals exact fun t r => (t3_no t r).elim
  · exact fun t r => (t3_no t r).elim
  · exact fun t r => (t3_no t r).elim
  · exact fun t r => (t3_no t r).elim
  · exact fun t r => (t3_no t r).elim
  all_goals
    repeat' apply And.intro
    all_goals exact fun t => (t4_no t).elim

end Cert.Proof.KI
-- ==== Proof.KernelIdeal.Setup.lean ====
/-
  What the proof's modules share: the program as the launch theorem sees it, the resource algebra, the arrays and a
  tile's buffers, and the values the kernel leaves — the running column sums.
-/
module

public import proofs.«01_k».proof.Proof.KernelIdeal.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays, as locations of device `d`, and a tile's memrefs -/

/-- The input, the lengths laid out per tile, their reciprocals likewise, and the result. -/
abbrev xLoc (d : Dev nD) : Loc nD τ sig := (SparseCore.T d).loc main_arg0
abbrev lLoc (d : Dev nD) : Loc nD τ sig := (SparseCore.T d).loc main_v21
abbrev qLoc (d : Dev nD) : Loc nD τ sig := (SparseCore.T d).loc main_v30
abbrev oLoc (d : Dev nD) : Loc nD τ sig := (SparseCore.T d).loc main_v31

abbrev xV : Memref sig Kind.scVector Space.hbm S16x2048x1024 EltTy.f32 := Memref.whole main_arg0_scv
abbrev lV : Memref sig Kind.scVector Space.hbm S2x16x16 EltTy.i32 := Memref.whole main_v21_scv
abbrev qV : Memref sig Kind.scVector Space.hbm S2x16x16 EltTy.f32 := Memref.whole main_v30_scv
abbrev oV : Memref sig Kind.scVector Space.hbm S16x1024 EltTy.f32 := Memref.whole main_v31_scv
abbrev lB : Memref sig Kind.scVector Space.vmem S16 EltTy.i32 := Memref.whole cc0_scratch0
abbrev qB : Memref sig Kind.scVector Space.vmem S16 EltTy.f32 := Memref.whole cc0_scratch1
abbrev xB : Memref sig Kind.scVector Space.vmem S64x512 EltTy.f32 := Memref.whole cc0_scratch2
abbrev oB : Memref sig Kind.scVector Space.vmem S512 EltTy.f32 := Memref.whole cc0_scratch3

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-! ## The values -/

/-- An index of the input, of a chunk's buffer, of the result, from its coordinates (each taken modulo its extent). -/
def ix3 (b t c : ℕ) : S16x2048x1024.Idx
  | 0 => ⟨b % 16, Nat.mod_lt _ (by decide)⟩
  | 1 => ⟨t % 2048, Nat.mod_lt _ (by decide)⟩
  | 2 => ⟨c % 1024, Nat.mod_lt _ (by decide)⟩
def ixB (r c : ℕ) : S64x512.Idx
  | 0 => ⟨r % 64, Nat.mod_lt _ (by decide)⟩
  | 1 => ⟨c % 512, Nat.mod_lt _ (by decide)⟩

/-- The batch entry and the first column of a tile's share. -/
def bat (L : grid0.Coords) : ℕ := 8 * (L 0).val + (L 1).val / 2
def col (L : grid0.Coords) : ℕ := 512 * ((L 1).val % 2)

variable [FloatOps F]

/-- The sum of the first `n` rows of column `c` of batch entry `b`, added in order from zero. -/
def colSum (X : S16x2048x1024.Idx → F .f32) (b c : ℕ) : ℕ → F .f32
  | 0 => Scalar.ofBits .f32 0x00000000#32
  | n + 1 => FloatOps.addf (colSum X b c n) (X (ix3 b n c))

/-- Lane group `g` of those sums: the 16 columns from `col L + 16 g`. -/
def laneSum (X : S16x2048x1024.Idx → F .f32) (L : grid0.Coords) (n : ℕ) (g : ℕ) : FVec F S16 .f32 :=
  fun j => colSum X (bat L) (col L + 16 * g + (j 0).val) n

/-- What a loop carries: the 32 lane groups. -/
abbrev Acc (F : FTy → Type) : Type :=
  FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32
    × FVec F S16 .f32 × FVec F S16 .f32 × FVec F S16 .f32 × FVec F S16 .f32 × FVec F S16 .f32 × FVec F S16 .f32 × FVec F S16 .f32 × FVec F S16 .f32

def accOf (A : ℕ → FVec F S16 .f32) : Acc F :=
  (A 0, A 1, A 2, A 3, A 4, A 5, A 6, A 7, A 8, A 9, A 10, A 11, A 12, A 13, A 14, A 15,
    A 16, A 17, A 18, A 19, A 20, A 21, A 22, A 23, A 24, A 25, A 26, A 27, A 28, A 29, A 30, A 31)

end Cert.Proof.KI

end
-- ==== Proof.KernelIdeal.Rows.lean ====
/-
  One trip of the row loop: the 32 loads of row `r` of the chunk's buffer, each added to its lane group.
-/
module

public import proofs.«01_k».proof.Proof.KernelIdeal.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What a chunk's buffer holds: rows `s`, `s + 1`, … of the tile's batch entry, in the tile's columns. -/
def Holds64 (X : S16x2048x1024.Idx → F .f32) (L : grid0.Coords) (s : ℕ) (g : S64x512.Idx → F .f32) : Prop :=
  ∀ r c, r < 64 → c < 512 → g (ixB r c) = X (ix3 (bat L) (s + r) (col L + c))

variable (d : Dev nD) (L : grid0.Coords) (X : S16x2048x1024.Idx → F .f32)

omit [FloatOps F] in
/-- A load of 16 lanes of the chunk's buffer, as a vector of 16: lane `j` is row `r`, column `c + j`. -/
theorem load_lane (g : S64x512.Idx → F .f32) (off : Fin 2 → ℕ) (inb : ∀ a, off a + S1x16.size a ≤ S64x512.size a) (r c : ℕ)
    (he : off = ![r, c]) (j : S16.Idx) :
    shapeCast S16 (View.readAt (Elt F) xB.view (Rect.unit (s := S64x512) off S1x16.size inb).toLoadRect g) shapeCasts_S1x16_S16 j
      = g (ixB r (c + (j 0).val)) := by
  subst he
  have h0 : r + 1 ≤ 64 := inb 0
  have h1 : c + 16 ≤ 512 := inb 1
  have hj : (j 0).val < 16 := (j 0).isLt
  rw [shapeCast_dropUnit_apply (![16]) _ _ j]
  show g _ = g _
  congr 1
  funext a
  match a with
  | 0 => exact Fin.ext (show r + 1 * 0 = r % 64 by omega)
  | 1 => exact Fin.ext (show c + 1 * (j 0).val = (c + (j 0).val) % 512 by omega)

/-- One lane group's step: the sums of the first `n` rows and row `n` of the chunk make the sums of the first `n + 1`. -/
theorem lane_step {s r : ℕ} {g : S64x512.Idx → F .f32} (hg : Holds64 X L s g) (q : ℕ) (hq : q < 32) (off : Fin 2 → ℕ)
    (inb : ∀ a, off a + S1x16.size a ≤ S64x512.size a) (he : off = ![r, 16 * q]) :
    addf (laneSum X L (s + r) q)
        (shapeCast S16 (View.readAt (Elt F) xB.view (Rect.unit (s := S64x512) off S1x16.size inb).toLoadRect g) shapeCasts_S1x16_S16)
      = laneSum X L (s + r + 1) q := by
  funext j
  have h0 : r + 1 ≤ 64 := by have := inb 0; rwa [he] at this
  have hj : (j 0).val < 16 := (j 0).isLt
  have e := load_lane g off inb r (16 * q) he j
  rw [hg r _ (by omega) (by omega), ← Nat.add_assoc (col L)] at e
  exact congrArg (FloatOps.addf (colSum X (bat L) (col L + 16 * q + (j 0).val) (s + r))) e

set_option maxHeartbeats 4000000 in
theorem row_trip (v33 : BitVec 32) (hv : Len v33) (hw : k0_chk1 L v33) (v37 : F .f32)
    (v57 v58 v59 v60 v61 v62 v63 v64 v65 v66 v67 v68 v69 v70 v71 v72 v73 v74 v75 v76 v77 v78 v79 v80 v81 v82 v83 v84 v85 v86 v87 v88 : FVec F S16 .f32)
    (c0 v89 v258 : BitVec 32) (t : Fin (k0_t1_loop v33).trips) (r : Fin (k0_t2_loop v33 t).trips)
    (g : Buf (Elt F) ((thr d L).loc cc0_scratch2)) (hg : Holds64 X L (64 * t.val) g) :
    ((xB).view.loc (thr d L) ↦{fullShare} g : sProp 𝕄)
      ⊢ wp frame (wpE (defs₀ (F := F)) 𝒱₀ (thr d L) none) Set.univ
          (k0_t2_body L xV (Memref.isWhole_whole _) lV (Memref.isWhole_whole _) qV (Memref.isWhole_whole _) oV (Memref.isWhole_whole _)
            lB (Memref.isWhole_whole _) qB (Memref.isWhole_whole _) xB (Memref.isWhole_whole _) oB (Memref.isWhole_whole _)
            cc0_scoped0 cc0_scoped1 cc0_scoped2 cc0_scoped3 cc0_scoped4 v33 hw v37
            v57 v58 v59 v60 v61 v62 v63 v64 v65 v66 v67 v68 v69 v70 v71 v72 v73 v74 v75 v76 v77 v78 v79 v80 v81 v82 v83 v84 v85 v86 v87 v88
            c0 v89 t v258 r (accOf (laneSum X L (64 * t.val + r.val))))
          fun acc => iprop(⌜acc = accOf (laneSum X L (64 * t.val + r.val + 1))⌝ ∗ (xB).view.loc (thr d L) ↦{fullShare} g) := by
  unfold k0_t2_body accOf
  iintro Hx
  sl_exec
  sl_step
  isplitr
  · ipureintro
    repeat' apply Prod.ext
    all_goals
      refine lane_step L X hg _ (by decide) _ _ ?_
      exact row_off hv t r _
  · iexact Hx

end Cert.Proof.KI

end
-- ==== Proof.KernelIdeal.Chunks.lean ====
/-
  One trip of the chunk loop: the copy of 64 rows into the tile's buffer, then the rows, each added to the lane groups.
-/
module

public import proofs.«01_k».proof.Proof.KernelIdeal.Rows

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x2048x1024.Idx → F .f32)

omit [FloatOps F] in
/-- The window a chunk is copied from, read at row `r` and column `c`. -/
theorem chunk_read (off : Fin 3 → ℕ) (inb : ∀ a, off a + S1x64x512.size a ≤ S16x2048x1024.size a) (b s e : ℕ) (he : off = ![b, s, e])
    (r c : ℕ) (hr : r < 64) (hc : c < 512) :
    View.read (Elt F) ((xV.slice (Rect.unit (s := S16x2048x1024) off S1x64x512.size inb) (fun _ => rfl)).squeeze S64x512 squeezes_S1x64x512_S64x512).view X (ixB r c)
      = X (ix3 b (s + r) (e + c)) := by
  subst he
  have h0 : b + 1 ≤ 16 := inb 0
  have h1 : s + 64 ≤ 2048 := inb 1
  have h2 : e + 512 ≤ 1024 := inb 2
  have h := shapeCast_dropUnit_apply (![64, 512])
    (fun y => View.read (Elt F) (xV.slice (Rect.unit (s := S16x2048x1024) ![b, s, e] S1x64x512.size inb) (fun _ => rfl)).view X y)
    (Shape.Squeezes.numel_eq squeezes_S1x64x512_S64x512) (ixB r c)
  refine Eq.trans h ?_
  show X _ = X _
  congr 1
  funext a
  match a with
  | 0 => exact Fin.ext (show b + 1 * 0 = b % 16 by omega)
  | 1 => exact Fin.ext (show s + 1 * (r % 64) = (s + r) % 2048 by omega)
  | 2 => exact Fin.ext (show e + 1 * (c % 512) = (e + c) % 1024 by omega)

/-- What the chunk loop keeps: the input (a share of it), the chunk's buffer, its semaphore at zero, the tile's waits. -/
def chunkRes (q : PosShare TreeShare) (O : CellTallies nD τ sig (HIx 1)) (W : Waits sig (HIx 1)) : sProp 𝕄 :=
  iprop(Transfers.MayWaits (thr d L) (none : HIx 1) O
    ∗ ((xV).view.loc (thr d L) ↦{q} (X : Buf (Elt F) ((xV).view.loc (thr d L))))
    ∗ (∃ g, (xB).view.loc (thr d L) ↦{fullShare} g)
    ∗ semVal (thr d L, SemLoc.dma cc0_scoped2.sem) 0
    ∗ ∃ W', ⌜∀ p ∈ W', p ∈ W ∨ p.2 = none⌝ ∗ owes (thr d L) O W')

set_option maxHeartbeats 4000000 in
theorem chunk_trip (q : PosShare TreeShare) (O : CellTallies nD τ sig (HIx 1)) (W : Waits sig (HIx 1)) (v33 : BitVec 32) (hv : Len v33) (hw : k0_chk1 L v33) (v37 : F .f32)
    (v57 v58 v59 v60 v61 v62 v63 v64 v65 v66 v67 v68 v69 v70 v71 v72 v73 v74 v75 v76 v77 v78 v79 v80 v81 v82 v83 v84 v85 v86 v87 v88 : FVec F S16 .f32)
    (v89 : BitVec 32) (t : Fin (k0_t1_loop v33).trips) :
    chunkRes d L X q O W
      ⊢ wp frame (wpE (defs₀ (F := F)) 𝒱₀ (thr d L) none) Set.univ
          (k0_t1_body L xV (Memref.isWhole_whole _) lV (Memref.isWhole_whole _) qV (Memref.isWhole_whole _) oV (Memref.isWhole_whole _)
            lB (Memref.isWhole_whole _) qB (Memref.isWhole_whole _) xB (Memref.isWhole_whole _) oB (Memref.isWhole_whole _)
            cc0_scoped0 cc0_scoped1 cc0_scoped2 cc0_scoped3 cc0_scoped4 v33 hw v37
            v57 v58 v59 v60 v61 v62 v63 v64 v65 v66 v67 v68 v69 v70 v71 v72 v73 v74 v75 v76 v77 v78 v79 v80 v81 v82 v83 v84 v85 v86 v87 v88
            0#32 v89 t (accOf (laneSum X L (min (64 * t.val) v33.toNat))))
          fun acc => iprop(⌜acc = accOf (laneSum X L (min (64 * (t.val + 1)) v33.toNat))⌝ ∗ chunkRes d L X q O W) := by
  unfold k0_t1_body accOf chunkRes
  iintro ⟨Hmw, Hx, ⟨%g, Hg⟩, Hsem, %W', %hW', HO⟩
  sl_exec (disch := exact View.amount_pos _ _ (show 0 < S64x512.numel by decide))
  ihave Hg' : iprop(∃ g', ((xB).view.loc (thr d L) ↦{fullShare} g') ∗ ⌜Holds64 X L (64 * t.val) g'⌝) $$ [Hg]
  · iexists _
    isplitl [Hg]
    · iexact Hg
    ipureintro
    unfold chunk_trip.sl.dma0
    rw [View.write_whole_univ]
    intro r c hr hc
    have := chunk_read X (k0_off2 L v33 t) (k0_off2_inb L v33 hw t) (bat L) (64 * t.val) (col L) (chunk_off hv L t) r c hr hc
    exact this
  icases Hg' with ⟨%g', Hg, %hg⟩
  have ht := t1_lt hv t
  rw [show min (64 * t.val) v33.toNat = 64 * t.val by omega]
  sl_for (fun k acc => iprop(⌜acc = accOf (laneSum X L (64 * t.val + k))⌝ ∗ (xB).view.loc (thr d L) ↦{fullShare} g')) $$ [Hg]
  case region =>
    intro r acc
    iintro ⟨%e, Hg⟩
    subst e
    iapply (row_trip d L X v33 hv hw v37 v57 v58 v59 v60 v61 v62 v63 v64 v65 v66 v67 v68 v69 v70 v71 v72 v73 v74 v75 v76 v77 v78 v79 v80 v81 v82 v83 v84 v85 v86 v87 v88
      0#32 v89 _ t r g' hg)
    iexact Hg
  · isplitr
    · ipureintro; rfl
    · iexact Hg
  iintro %acc ⟨%e, Hg⟩
  subst e
  unfold accOf
  sl_exec
  have hk : 64 * t.val + Scf.trips (k0_t2_loop v33 t).lb (k0_t2_loop v33 t).ub (k0_t2_loop v33 t).st = min (64 * (t.val + 1)) v33.toNat := by
    have := t2_trips hv t
    change 64 * t.val + (k0_t2_loop v33 t).trips = _
    omega
  sl_step
  isplitr
  · ipureintro; rw [hk]
  isplitl [Hmw]; · iexact Hmw
  isplitl [Hx]; · iexact Hx
  isplitl [Hg]; · iexists _; iexact Hg
  isplitl [Hsem]; · iexact Hsem
  iexists (insert (SemLoc.dma cc0_scoped2.sem, (default : HIx 1)) W'); isplitr
  · ipureintro; intro p hp
    rcases Finset.mem_insert.mp hp with hp | hp
    · exact .inr (hp ▸ rfl)
    · exact hW' p hp
  · iexact HO

end Cert.Proof.KI

end
-- ==== Proof.KernelIdeal.Tile.lean ====
/-
  The kernel on one tile: the fetch of its length and reciprocal, the chunk loop, the products stored, the copy out.
-/
module

public import proofs.«01_k».proof.Proof.KernelIdeal.Chunks

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : S16x2048x1024.Idx → F .f32) (N : S2x16x16.Idx → BitVec 32) (Q : S2x16x16.Idx → F .f32)

/-! ## The pieces of the result, and a tile's own buffers and semaphores -/

/-- The tile's 512 columns of its batch entry's row of the result, as the kernel addresses them. -/
abbrev oRow (L : grid0.Coords) : Memref sig .scVector .hbm S512 .f32 :=
  ((oV).slice (Rect.unit (s := S16x1024) (k0_off132 L) S1x512.size (k0_off132_inb L)) (fun _ => rfl)).squeeze S512 squeezes_S1x512_S512

/-- The elements of the result a tile writes. -/
abbrev oSet (L : grid0.Coords) : Finset S16x1024.Idx := (oRow L).view.set

/-- An entry of the arrays laid out per tile: core `c`, subcore `s`, lane 0. -/
def ixT (c s : ℕ) : S2x16x16.Idx
  | 0 => ⟨c % 2, Nat.mod_lt _ (by decide)⟩
  | 1 => ⟨s % 16, Nat.mod_lt _ (by decide)⟩
  | 2 => ⟨0, by decide⟩

abbrev cell0 : GSem nD τ sig := (thr d L, .dma cc0_scoped0.sem)
abbrev cell1 : GSem nD τ sig := (thr d L, .dma cc0_scoped1.sem)
abbrev cell2 : GSem nD τ sig := (thr d L, .dma cc0_scoped2.sem)
abbrev cell4 : GSem nD τ sig := (thr d L, .dma cc0_scoped4.sem)

omit [FloatOps F] in
theorem cell_mem (s : DmaSem sig) (h : (SemLoc.dma s : SemLoc sig).isScoped .scVector = true) :
    ((thr d L, SemLoc.dma s) : GSem nD τ sig) ∈ ownCells (thr d L) :=
  mem_ownCells.mpr ⟨rfl, h⟩

omit [FloatOps F] in
/-- The four copies' semaphores are among the tile's own: they are them, and the rest. -/
theorem ownSems_split :
    (ownSems0 (thr d L) : sProp 𝕄)
      = iprop(semVal (cell0 d L) 0 ∗ semVal (cell1 d L) 0 ∗ semVal (cell2 d L) 0 ∗ semVal (cell4 d L) 0
          ∗ bigSep (((((ownCells (thr d L)).erase (cell0 d L)).erase (cell1 d L)).erase (cell2 d L)).erase (cell4 d L)) fun g => semVal g 0) := by
  have ne {a b : DmaSem sig} (h : a ≠ b) : ((thr d L, SemLoc.dma a) : GSem nD τ sig) ≠ (thr d L, SemLoc.dma b) :=
    fun e => h (SemLoc.dma.inj (Prod.mk.inj e).2)
  unfold SparseCore.Cfg.ownSems0
  rw [SparseCore.bigSep_erase' (cell_mem d L cc0_scoped0.sem (by decide)),
    SparseCore.bigSep_erase' (Finset.mem_erase.mpr ⟨ne (by decide), cell_mem d L cc0_scoped1.sem (by decide)⟩),
    SparseCore.bigSep_erase' (Finset.mem_erase.mpr ⟨ne (by decide), Finset.mem_erase.mpr ⟨ne (by decide), cell_mem d L cc0_scoped2.sem (by decide)⟩⟩),
    SparseCore.bigSep_erase' (Finset.mem_erase.mpr ⟨ne (by decide), Finset.mem_erase.mpr ⟨ne (by decide), Finset.mem_erase.mpr ⟨ne (by decide),
      cell_mem d L cc0_scoped4.sem (by decide)⟩⟩⟩)]

abbrev buf (b : Ref sig .scVector) : DevRef τ sig := (Proc.scVector (cV L) (jV L)).devRef b

omit [FloatOps F] in
/-- The four scratch buffers are among the tile's own: they are them, at some contents, and the rest. -/
theorem ownBufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (buf L cc0_scratch0)).erase (buf L cc0_scratch1)).erase (buf L cc0_scratch2)).erase
              (buf L cc0_scratch3))
              fun b => iprop(∃ f, ((d, b) : Loc nD τ sig) ↦{fullShare} f)) := by
  have own (b : Ref sig .scVector) (h : (buf L b).owner = .proc (Proc.scVector (cV L) (jV L))) : buf L b ∈ ownRefs (τ := τ) (.scVector (cV L) (jV L)) :=
    SparseCore.Cfg.mem_ownRefs_of_owner (p := Proc.scVector (cV L) (jV L)) h
  have ne {a b : Ref sig .scVector} (h : a ≠ b) : buf L a ≠ buf L b := fun e => absurd (Proc.devRef_injective _ e) h
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide), Finset.mem_erase.mpr ⟨ne (by decide),
      own cc0_scratch3 rfl⟩⟩⟩)]

/-- What a tile leaves in its 512 columns: each column's sum over the entry's length, by the reciprocal it was handed. -/
def tileVal (L : grid0.Coords) : S512.Idx → F .f32 := fun y =>
  FloatOps.mulf (colSum X (bat L) (col L + (y 0).val) (N (ixT (L 0).val (L 1).val)).toNat) (Q (ixT (L 0).val (L 1).val))

/-- One store's piece: a lane group's sums by the reciprocal are the tile's values at the columns the store covers. -/
theorem store_piece {n : ℕ} {v : F .f32} (hn : n = (N (ixT (L 0).val (L 1).val)).toNat) (hv : v = Q (ixT (L 0).val (L 1).val)) (g : ℕ) (hg : g < 32)
    (off : Fin 1 → ℕ) (inb : ∀ a, off a + S16.size a ≤ S512.size a) (he : off = ![16 * g]) (x : S16.Idx) :
    shapeCast S16 (mulf (laneSum X L n g) (broadcast S16 v)) shapeCasts_S16_S16 x
      = tileVal X N Q L ((Rect.unit (s := S512) off S16.size inb).emb x) := by
  subst hn hv he
  rw [shapeCast_self]
  show FloatOps.mulf (colSum X (bat L) (col L + 16 * g + (x 0).val) _) _ = FloatOps.mulf (colSum X (bat L) (col L + (16 * g + 1 * (x 0).val)) _) _
  rw [Nat.one_mul, Nat.add_assoc]
  rfl

omit [FloatOps F] in
theorem tile_off : ∀ i : grid0.Coords, k0_off1 i = ![(i 0).val, (i 1).val, 0] := by
  decide +kernel

/-- Lane 0. -/
def zero16 : S16.Idx | 0 => ⟨0, by decide⟩

omit [FloatOps F] in
/-- A tile's row of an array laid out per tile, read at lane 0. -/
theorem row_lane0 {α : Type} (g : S2x16x16.Idx → α) (off : Fin 3 → ℕ) (inb : ∀ a, off a + S1x1x16.size a ≤ S2x16x16.size a) (he : off = ![(L 0).val, (L 1).val, 0])
    (j : S16.Idx) (hj : (j 0).val = 0) :
    g ((Rect.unit (s := S2x16x16) off S1x1x16.size inb).emb (Shape.reshapeEquiv (Shape.Squeezes.numel_eq squeezes_S1x1x16_S16) j))
      = g (ixT (L 0).val (L 1).val) := by
  subst he
  have h0 : (L 0).val < 2 := (L 0).isLt
  have h1 : (L 1).val < 16 := (L 1).isLt
  have e : Shape.reshapeEquiv (Shape.Squeezes.numel_eq squeezes_S1x1x16_S16) j = (fun | 0 => ⟨0, by decide⟩ | 1 => ⟨0, by decide⟩ | 2 => ⟨0, by decide⟩ : S1x1x16.Idx) := by
    have : j = zero16 := funext fun a => match a with | 0 => Fin.ext hj
    subst this
    decide +kernel
  rw [e]
  congr 1
  funext a
  match a with
  | 0 => exact Fin.ext (show (L 0).val + 1 * 0 = (L 0).val % 2 by omega)
  | 1 => exact Fin.ext (show (L 1).val + 1 * 0 = (L 1).val % 16 by omega)
  | 2 => rfl

omit [FloatOps F] in
/-- Lane 0 of a vector of 16, as the kernel extracts it. -/
theorem lane0 {α : Type} (w : S16.Idx → α) :
    extractAt ![0] (extractStridedSlice S1 ![0] (shapeCast S16 w shapeCasts_S16_S16) slices_S16_o0_S1) inpos_S1_p0 = w zero16 := by
  rw [shapeCast_self]
  refine congrArg w (funext fun a => ?_)
  match a with
  | 0 => rfl

/-- The result: entry `b`, column `c` is the sum of the entry's first rows, as many as the tile that computes it was told,
    by the reciprocal that tile was handed. -/
def res : S16x1024.Idx → F .f32 := fun i =>
  FloatOps.mulf (colSum X (i 0).val (i 1).val (N (ixT ((i 0).val / 8) (2 * ((i 0).val % 8) + (i 1).val / 512))).toNat)
    (Q (ixT ((i 0).val / 8) (2 * ((i 0).val % 8) + (i 1).val / 512)))

/-- The result at the elements a tile writes is what the tile leaves. -/
theorem res_tile (y : S512.Idx) : res X N Q ((oRow L).view.emb y) = tileVal X N Q L y := by
  have h0 : (L 0).val < 2 := (L 0).isLt
  have h1 : (L 1).val < 16 := (L 1).isLt
  have hy : (y 0).val < 512 := (y 0).isLt
  have e := shapeCast_dropUnit_apply (![512])
    (fun z => res X N Q ((Rect.unit (s := S16x1024) (k0_off132 L) S1x512.size (k0_off132_inb L)).emb z))
    (Shape.Squeezes.numel_eq squeezes_S1x512_S512) y
  refine Eq.trans e ?_
  generalize hz : ((Rect.unit (s := S16x1024) (k0_off132 L) S1x512.size (k0_off132_inb L)).emb (Fin.cons ⟨0, Nat.one_pos⟩ y)) = z
  have z0 : (z 0).val = bat L := by
    rw [← hz]; show k0_off132 L 0 + 1 * 0 = _; rw [out_off L]; rfl
  have z1 : (z 1).val = col L + (y 0).val := by
    rw [← hz]; show k0_off132 L 1 + 1 * (y 0).val = _; rw [out_off L, Nat.one_mul]; rfl
  show res X N Q z = _
  unfold res tileVal
  rw [z0, z1, show bat L / 8 = (L 0).val by unfold bat; omega, show 2 * (bat L % 8) + (col L + (y 0).val) / 512 = (L 1).val by unfold bat col; omega]

/-- So the tile's piece, written, holds the result there. -/
theorem res_written (f : S16x1024.Idx → F .f32) : ∀ i ∈ (oRow L).view.set,
    (oRow L).view.writes (Elt F) f [⟨Rect.whole S512, tileVal X N Q L⟩] i = res X N Q i := by
  intro i hi
  obtain ⟨y, -, rfl⟩ := Finset.mem_map.mp hi
  refine Eq.trans ?_ (res_tile L X N Q y).symm
  exact View.read_writes_cons_hit (Val := Elt F) (oRow L).view f (Rect.whole S512) (tileVal X N Q L) [] y y (by
    funext a
    exact Fin.ext (by show 0 + 1 * (y a).val = _; omega))

set_option maxHeartbeats 4000000 in
theorem tile_body (hF : (K (F := F)).Facts) (q qn qq : PosShare TreeShare) (fo : Buf (Elt F) (oLoc d)) (O : CellTallies nD τ sig (HIx 1)) (W : Waits sig (HIx 1))
    (hO : ∀ g, O g none = 0) (hN : Len (N (ixT (L 0).val (L 1).val))) :
    (iprop(levAts (K (F := F)).L (K (F := F)).lev ∗ emp
        ∗ ((xV).view.loc (thr d L) ↦{q} (X : Buf (Elt F) ((xV).view.loc (thr d L))))
        ∗ ((lV).view.loc (thr d L) ↦{qn} (N : Buf (Elt F) ((lV).view.loc (thr d L))))
        ∗ ((qV).view.loc (thr d L) ↦{qq} (Q : Buf (Elt F) ((qV).view.loc (thr d L))))
        ∗ ((oRow L).view.loc (thr d L) ↦[(oRow L).view.set]{fullShare} fo)
        ∗ scopedBufs (thr d L) ∗ scopedSems0 (thr d L) ∗ owes (thr d L) O W) : sProp 𝕄)
      ⊢ wp frame (wpE (defs₀ (F := F)) 𝒱₀ (thr d L) none) Set.univ
          (cc0__body L xV (Memref.isWhole_whole _) lV (Memref.isWhole_whole _) qV (Memref.isWhole_whole _) oV (Memref.isWhole_whole _)
            lB (Memref.isWhole_whole _) qB (Memref.isWhole_whole _) xB (Memref.isWhole_whole _) oB (Memref.isWhole_whole _)
            cc0_scoped0 cc0_scoped1 cc0_scoped2 cc0_scoped3 cc0_scoped4)
          fun _ => iprop(((xV).view.loc (thr d L) ↦{q} (X : Buf (Elt F) ((xV).view.loc (thr d L))))
            ∗ ((lV).view.loc (thr d L) ↦{qn} (N : Buf (Elt F) ((lV).view.loc (thr d L))))
            ∗ ((qV).view.loc (thr d L) ↦{qq} (Q : Buf (Elt F) ((qV).view.loc (thr d L))))
            ∗ ((oRow L).view.loc (thr d L) ↦[(oRow L).view.set]{fullShare} (res X N Q : Buf (Elt F) ((oRow L).view.loc (thr d L))))
            ∗ scopedBufs (thr d L) ∗ scopedSems0 (thr d L)
            ∗ ∃ W', ⌜∀ p ∈ W', p ∈ W ∨ p.2 = none⌝ ∗ owes (thr d L) O W') := by
  rw [cc0__body_eq_skeleton]; unfold cc0__body_skel
  rw [(K (F := F)).scopedBufs_V hF d (cV L) (jV L), SparseCore.Cfg.scopedSems0_V (Val := Elt F) d (cV L) (jV L), ownSems_split, ownBufs_split]
  iintro ⟨#Hlv, -, Hx, Hn, Hq, Ho, ⟨⟨%fl, Hlb⟩, ⟨%fq, Hqb⟩, ⟨%fx, Hxb⟩, ⟨%fb, Hob⟩, Hbufs⟩, ⟨Hs0, Hs1, Hs2, Hs4, Hsems⟩, HO⟩
  ihave Hmw := (show levAts (K (F := F)).L (K (F := F)).lev ⊢ Transfers.MayWaits (thr d L) (default : HIx 1) O from
    (K (F := F)).mayWaits_none (thr := thr d L) hO) $$ Hlv
  ihave Hlb' := (show ((thr d L).loc cc0_scratch0 ↦{fullShare} fl : sProp 𝕄) ⊢ (lB).view.loc (thr d L) ↦{fullShare} fl from .rfl) $$ Hlb
  ihave Hqb' := (show ((thr d L).loc cc0_scratch1 ↦{fullShare} fq : sProp 𝕄) ⊢ (qB).view.loc (thr d L) ↦{fullShare} fq from .rfl) $$ Hqb
  ihave Hxb' := (show ((thr d L).loc cc0_scratch2 ↦{fullShare} fx : sProp 𝕄) ⊢ (xB).view.loc (thr d L) ↦{fullShare} fx from .rfl) $$ Hxb
  ihave Hob' := (show ((thr d L).loc cc0_scratch3 ↦{fullShare} fb : sProp 𝕄) ⊢ (oB).view.loc (thr d L) ↦{fullShare} fb from .rfl) $$ Hob
  sl_exec (disch := exact View.amount_pos _ _ (show 0 < S16.numel by decide))
  have e33 : tile_body.sl.v33 d L N fl = N (ixT (L 0).val (L 1).val) := by
    unfold tile_body.sl.v33
    refine (lane0 _).trans ?_
    rw [View.write_whole_univ]
    exact row_lane0 L N _ (k0_off1_inb L) (tile_off L) _ rfl
  have hchk : k0_chk1 L (tile_body.sl.v33 d L N fl) := by rw [e33]; exact chk hN L
  have hv : Len (tile_body.sl.v33 d L N fl) := by rw [e33]; exact hN
  sl_exec (disch := exact hchk)
  sl_for (fun k acc => iprop(⌜acc = accOf (laneSum X L (min (64 * k) (tile_body.sl.v33 d L N fl).toNat))⌝ ∗ chunkRes d L X q O W)) $$ [Hmw Hx Hxb' Hs2 HO]
  case region =>
    intro t acc
    iintro ⟨%e, HI⟩
    subst e
    iapply (chunk_trip d L X q O W _ hv _)
    iexact HI
  · isplitr
    · ipureintro; rfl
    unfold chunkRes
    isplitl [Hmw]; · iexact Hmw
    isplitl [Hx]; · iexact Hx
    isplitl [Hxb']; · iexists _; iexact Hxb'
    isplitl [Hs2]; · iexact Hs2
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %acc HI
  unfold chunkRes
  icases HI with ⟨%e, Hmw, Hx, ⟨%g, Hxb'⟩, Hs2, %W', %hW', HO⟩
  subst e
  unfold accOf
  sl_exec
  have er : tile_body.sl.r d L Q fq = Q (ixT (L 0).val (L 1).val) := by
    unfold tile_body.sl.r
    refine (lane0 _).trans ?_
    rw [View.write_whole_univ]
    exact row_lane0 L Q _ (k0_off1_inb L) (tile_off L) _ rfl
  have hn : min (64 * (k0_t1_loop (tile_body.sl.v33 d L N fl)).trips) (tile_body.sl.v33 d L N fl).toNat = (N (ixT (L 0).val (L 1).val)).toNat := by
    rw [t1_trips hv, e33]; omega
  have hob : ∀ y, View.read (Elt F) oB.view (oB.view.writes (Elt F) fb (tile_body.sl.Hob'_32 d L X N Q fl fq)) y = tileVal X N Q L y := by
    intro y
    refine View.read_writes_apply_of_pieces (Val := Elt F) (oB).view fb (tileVal X N Q L) _ ?_ y ?_
    · unfold tile_body.sl.Hob'_32
      iterate 32 refine List.forall_mem_cons.mpr ⟨fun x => store_piece L X N Q hn er _ (by decide) _ (by decide) (by rfl) x, ?_⟩
      exact List.forall_mem_nil _
    · exact View.cover_of_tiled _ (![16]) (by rfl) y
  have hdma : tile_body.sl.dma64 d L X N Q fl fq fb = tileVal X N Q L := by
    unfold tile_body.sl.dma64
    exact funext hob
  rw [hdma]
  sl_step
  isplitl [Hx]; · iexact Hx
  isplitl [Hn]; · iexact Hn
  isplitl [Hq]; · iexact Hq
  isplitl [Ho]
  · iapply (Entails.of_eq (pointsTo_congr (res_written L X N Q fo)))
    iexact Ho
  isplitl [Hlb' Hqb' Hxb' Hob' Hbufs]
  · isplitl [Hlb']; · iexists _; iexact Hlb'
    isplitl [Hqb']; · iexists _; iexact Hqb'
    isplitl [Hxb']; · iexists _; iexact Hxb'
    isplitl [Hob']; · iexists _; iexact Hob'
    iexact Hbufs
  isplitl [Hs0 Hs1 Hs2 Hs4 Hsems]
  · isplitl [Hs0]; · iexact Hs0
    isplitl [Hs1]; · iexact Hs1
    isplitl [Hs2]; · iexact Hs2
    isplitl [Hs4]; · iexact Hs4
    iexact Hsems
  iexists _; isplitr
  swap; · iexact HO
  ipureintro; intro p hp
  rcases Finset.mem_insert.mp hp with hp | hp; · exact .inr (hp ▸ rfl)
  exact hW' p hp

end Cert.Proof.KI

end
-- ==== Proof.KernelIdeal.Host.lean ====
/-
  The host operations before the call: as a list, and the two arrays they lay out for the tiles — entry (c, s, ·) of the
  one is the length of batch entry 8c + s/2, of the other that length's reciprocal.
-/
module

public import proofs.«01_k».proof.Proof.KernelIdeal.Tile
public import Idealize.ShloMosaic.Lib.ValueIdxCore

@[expose] public section

noncomputable section

namespace Cert.Proof.KI

open Cert.KernelIdeal Cert.KernelIdeal.Gen
open Idealize.ShloMosaic Idealize.SL.Sem
open Idealize.ShloMosaic.StableHlo

variable {F : FTy → Type} [FloatOps F]

/-- The reciprocals of the lengths, the tiles' coordinates, and the two operands of the floor division. -/
abbrev opsHead : List (HloOp τ sig (Elt F)) :=
  [ unary main_arg1 main_v0 (sitofp (s := S16) .f32),
    nullary main_cst (constant S_ .f32 0x3F800000#32),
    unary main_cst main_v1 (broadcastInDim S16 ![] bcast_S_S16),
    binary main_v1 main_v0 main_v2 (Host.divf (s := S16)),
    nullary main_v3 (iotaInDim S2 32 0),
    unary main_v3 main_v4 (broadcastInDim S2x1 ![0] bcast_S2_S2x1_0),
    nullary main_v5 (iotaInDim S16 32 0),
    unary main_v5 main_v6 (broadcastInDim S1x16 ![1] bcast_S16_S1x16_1),
    nullary main_c (constantI S_ 32 8#32),
    unary main_c main_v7 (broadcastInDim S2x1 ![] bcast_S_S2x1),
    binary main_v4 main_v7 main_v8 (muli (s := S2x1)),
    nullary main_c_0 (constantI S_ 32 2#32) ]

/-- The floor division of the subcore coordinate by two. -/
abbrev opsFloor : List (HloOp τ sig (Elt F)) :=
  [ unary main_c_0 main_call0_v0 id,
    unary main_call0_v0 main_call0_v1 (broadcastInDim S1x16 ![] bcast_S_S1x16),
    binary main_v6 main_call0_v1 main_call0_v2 (Host.divsi (s := S1x16)),
    unary main_v6 main_call0_v3 (signi (s := S1x16)),
    unary main_call0_v0 main_call0_v4 (signi (s := S_)),
    unary main_call0_v4 main_call0_v5 (broadcastInDim S1x16 ![] bcast_S_S1x16),
    binary main_call0_v3 main_call0_v5 main_call0_v6 (cmpi (s := S1x16) .ne),
    unary main_call0_v0 main_call0_v7 (broadcastInDim S1x16 ![] bcast_S_S1x16),
    binary main_v6 main_call0_v7 main_call0_v8 (Host.remsi (s := S1x16)),
    nullary main_call0_c (constantI S_ 32 0#32),
    unary main_call0_c main_call0_v9 (broadcastInDim S1x16 ![] bcast_S_S1x16),
    binary main_call0_v8 main_call0_v9 main_call0_v10 (cmpi (s := S1x16) .ne),
    binary main_call0_v6 main_call0_v10 main_call0_v11 (andi (s := S1x16)),
    nullary main_call0_c_0 (constantI S_ 32 1#32),
    unary main_call0_c_0 main_call0_v12 (broadcastInDim S1x16 ![] bcast_S_S1x16),
    binary main_call0_v2 main_call0_v12 main_call0_v13 (subi (s := S1x16)),
    ternary main_call0_v11 main_call0_v13 main_call0_v2 main_v9 (select (s := S1x16)) ]

/-- The batch entry of every tile, and its length and reciprocal, laid along the lanes. -/
abbrev opsTail : List (HloOp τ sig (Elt F)) :=
  [ unary main_v8 main_v10 (broadcastInDim S2x16 ![0, 1] bcast_S2x1_S2x16_0_1),
    unary main_v9 main_v11 (broadcastInDim S2x16 ![0, 1] bcast_S1x16_S2x16_0_1),
    binary main_v10 main_v11 main_v12 (addi (s := S2x16)),
    nullary main_c_1 (constantI S_ 32 0#32),
    unary main_c_1 main_v13 (broadcastInDim S2x16 ![] bcast_S_S2x16),
    binary main_v12 main_v13 main_v14 (cmpi (s := S2x16) .slt),
    nullary main_c_2 (constantI S_ 32 16#32),
    unary main_c_2 main_v15 (broadcastInDim S2x16 ![] bcast_S_S2x16),
    binary main_v12 main_v15 main_v16 (addi (s := S2x16)),
    ternary main_v14 main_v16 main_v12 main_v17 (select (s := S2x16)),
    unary main_v17 main_v18 (broadcastInDim S2x16x1 ![0, 1] bcast_S2x16_S2x16x1_0_1),
    binary main_arg1 main_v18 main_v19 (fun x i => Host.gather gather_S16_S2x16x1_S2x16_n_0_n_n_0_2_1 x i),
    unary main_v19 main_v20 (broadcastInDim S2x16x1 ![0, 1] bcast_S2x16_S2x16x1_0_1),
    unary main_v20 main_v21 (broadcastInDim S2x16x16 ![0, 1, 2] bcast_S2x16x1_S2x16x16_0_1_2),
    nullary main_c_3 (constantI S_ 32 0#32),
    unary main_c_3 main_v22 (broadcastInDim S2x16 ![] bcast_S_S2x16),
    binary main_v12 main_v22 main_v23 (cmpi (s := S2x16) .slt),
    nullary main_c_4 (constantI S_ 32 16#32),
    unary main_c_4 main_v24 (broadcastInDim S2x16 ![] bcast_S_S2x16),
    binary main_v12 main_v24 main_v25 (addi (s := S2x16)),
    ternary main_v23 main_v25 main_v12 main_v26 (select (s := S2x16)),
    unary main_v26 main_v27 (broadcastInDim S2x16x1 ![0, 1] bcast_S2x16_S2x16x1_0_1),
    binary main_v2 main_v27 main_v28 (fun x i => Host.gather gather_S16_S2x16x1_S2x16_n_0_n_n_0_2_1 x i),
    unary main_v28 main_v29 (broadcastInDim S2x16x1 ![0, 1] bcast_S2x16_S2x16x1_0_1),
    unary main_v29 main_v30 (broadcastInDim S2x16x16 ![0, 1, 2] bcast_S2x16x1_S2x16x16_0_1_2) ]

/-- @main: the three lines, then the call. -/
theorem main_eq (d : Dev nD) :
    main (F := F) d = Pipeline.chain [seq opsHead, seq opsFloor, seq opsTail, sc.run d 0] := by
  chain_rfl

/-- The operations, in order. -/
abbrev ops : List (HloOp τ sig (Elt F)) := opsHead ++ opsFloor ++ opsTail

theorem main_seq (d : Dev nD) :
    main (F := F) d = seq ops >>= fun _ => sc.run d 0 := by
  rw [main_eq]
  simp only [Pipeline.chain, ops, seq_append, bind_assoc]
  rfl

/-! ## The tiles' batch entries -/

/-- Every tile's coordinates' batch entry, before it is brought into range. -/
abbrev batWord : IVec S2x16 32 :=
  let two := broadcastInDim S1x16 ![] bcast_S_S1x16 (constantI S_ 32 2#32)
  let sub := broadcastInDim S1x16 ![1] bcast_S16_S1x16_1 (iotaInDim S16 32 0)
  let quo := Host.divsi sub two
  let sgn := broadcastInDim S1x16 ![] bcast_S_S1x16 (signi (constantI S_ 32 2#32))
  let odd := cmpi .ne (Host.remsi sub two) (broadcastInDim S1x16 ![] bcast_S_S1x16 (constantI S_ 32 0#32))
  let one := broadcastInDim S1x16 ![] bcast_S_S1x16 (constantI S_ 32 1#32)
  let half := select (andi (cmpi .ne (signi sub) sgn) odd) (subi quo one) quo
  let core := muli (broadcastInDim S2x1 ![0] bcast_S2_S2x1_0 (iotaInDim S2 32 0)) (broadcastInDim S2x1 ![] bcast_S_S2x1 (constantI S_ 32 8#32))
  addi (broadcastInDim S2x16 ![0, 1] bcast_S2x1_S2x16_0_1 core) (broadcastInDim S2x16 ![0, 1] bcast_S1x16_S2x16_0_1 half)

/-- The same brought into range: a negative one counts from the end. -/
abbrev batIdx : IVec S2x16x1 32 :=
  broadcastInDim S2x16x1 ![0, 1] bcast_S2x16_S2x16x1_0_1
    (select (cmpi .slt batWord (broadcastInDim S2x16 ![] bcast_S_S2x16 (constantI S_ 32 0#32)))
      (addi batWord (broadcastInDim S2x16 ![] bcast_S_S2x16 (constantI S_ 32 16#32))) batWord)

/-- An array of one entry per batch entry, laid out per tile and lane. -/
abbrev perTile {e : EltTy} (x : (⟨S16, e⟩ : BufTy).Contents (Elt F)) : (⟨S2x16x16, e⟩ : BufTy).Contents (Elt F) :=
  broadcastInDim S2x16x16 ![0, 1, 2] bcast_S2x16x1_S2x16x16_0_1_2
    (broadcastInDim S2x16x1 ![0, 1] bcast_S2x16_S2x16x1_0_1
      (Host.gather gather_S16_S2x16x1_S2x16_n_0_n_n_0_2_1 x batIdx))

/-- The reciprocals of the lengths. -/
abbrev recips (l : (⟨S16, .i32⟩ : BufTy).Contents (Elt F)) : (⟨S16, .f32⟩ : BufTy).Contents (Elt F) :=
  Host.divf (broadcastInDim S16 ![] bcast_S_S16 (constant S_ .f32 0x3F800000#32)) (sitofp .f32 l)

set_option maxHeartbeats 1600000 in
theorem after_lens (V : Valuation τ sig (Elt F)) :
    after ops V (Proc.devRef .tc main_v21) = perTile (F := F) (e := .i32) (V (Proc.devRef .tc main_arg1)) := by
  simp only [ops, List.cons_append, List.nil_append]
  after_results_simp
  rfl

set_option maxHeartbeats 1600000 in
theorem after_recips (V : Valuation τ sig (Elt F)) :
    after ops V (Proc.devRef .tc main_v30) = perTile (e := .f32) (recips (V (Proc.devRef .tc main_arg1))) := by
  simp only [ops, List.cons_append, List.nil_append]
  after_results_simp
  rfl

theorem after_x (V : Valuation τ sig (Elt F)) : after ops V (Proc.devRef .tc main_arg0) = V (Proc.devRef .tc main_arg0) := by
  simp only [ops, List.cons_append, List.nil_append]
  after_results_simp
theorem after_l (V : Valuation τ sig (Elt F)) : after ops V (Proc.devRef .tc main_arg1) = V (Proc.devRef .tc main_arg1) := by
  simp only [ops, List.cons_append, List.nil_append]
  after_results_simp
theorem after_o (V : Valuation τ sig (Elt F)) : after ops V (Proc.devRef .tc main_v31) = V (Proc.devRef .tc main_v31) := by
  simp only [ops, List.cons_append, List.nil_append]
  after_results_simp

/-- The line touches the TensorCore's arrays only, and allocates none. -/
theorem ops_sub : ∀ op ∈ (ops : List (HloOp τ sig (Elt F))), op.bufs ⊆ tcRefs τ sig :=
  List.forall_iff_forall_mem.1 (by
    simp only [ops, List.cons_append, List.nil_append, List.Forall, nullary_bufs_sub, unary_bufs_sub, binary_bufs_sub, ternary_bufs_sub, and_self])
theorem ops_fresh : ∀ op ∈ (ops : List (HloOp τ sig (Elt F))), op.fresh = ∅ :=
  List.forall_iff_forall_mem.1 (by
    simp only [ops, List.cons_append, List.nil_append, List.Forall]
    repeat' constructor)

/-- The place of tile (c, s) among the tiles' batch entries. -/
def ixI (c : Fin 2) (s : Fin 16) : S2x16x1.Idx
  | 0 => c
  | 1 => s
  | 2 => ⟨0, by decide⟩

/-- Tile (c, s) works on batch entry 8c + s/2. -/
theorem batIdx_eq : ∀ (c : Fin 2) (s : Fin 16),
    batIdx (ixI c s) = BitVec.ofNat 32 (8 * c.val + s.val / 2) := by
  decide +kernel

/-- What the tiles' layout holds at tile (c, s): the entry of batch entry 8c + s/2. -/
theorem perTile_apply {e : EltTy} (x : (⟨S16, e⟩ : BufTy).Contents (Elt F)) (c : Fin 2) (s : Fin 16) :
    perTile x (ixT c.val s.val) = x (ValueIdx.ix1 ⟨8 * c.val + s.val / 2, by omega⟩) := by
  have hlt : 8 * c.val + s.val / 2 < 16 := by omega
  have hc : c.val % 2 = c.val := by omega
  have hs : s.val % 16 = s.val := by omega
  have key := ValueIdx.gather_take_apply (N := 16) (R := 2) (C := 16) (by decide) gather_S16_S2x16x1_S2x16_n_0_n_n_0_2_1_wf x batIdx
    (fun | 0 => c | 1 => s)
  refine Eq.trans ?_ (key.trans ?_)
  · show Host.gather _ x batIdx _ = _
    refine congrArg (Host.gather _ x batIdx) (funext fun a => Fin.ext ?_)
    match a with
    | 0 => exact hc
    | 1 => exact hs
  · refine congrArg x (congrArg ValueIdx.ix1 (Fin.ext ?_))
    have h := congrArg batIdx (show (ValueIdx.takeIdx (fun | 0 => c | 1 => s) : S2x16x1.Idx) = ixI c s from
      funext fun a => match a with | 0 => rfl | 1 => rfl | 2 => rfl)
    refine (congrArg (fun w : BitVec 32 => min w.toInt.toNat 15) (h.trans (batIdx_eq c s))).trans ?_
    show min (BitVec.ofNat 32 (8 * c.val + s.val / 2)).toInt.toNat 15 = 8 * c.val + s.val / 2
    have e : (BitVec.ofNat 32 (8 * c.val + s.val / 2)).toNat = 8 * c.val + s.val / 2 :=
      (BitVec.toNat_ofNat ..).trans (Nat.mod_eq_of_lt (by omega))
    rw [BitVec.toInt_eq_toNat_of_lt (by omega), e]
    omega

end Cert.Proof.KI

end
-- ==== Proof.KernelIdeal.Launch.lean ====
/-
  The program's run: the host operations, then the one call, in which each of the 2 × 16 tiles takes a share of the input
  and of the two arrays laid out for the tiles, and its own 512 elements of the result. From any memory whose lengths
  are between 1 and 2047, every execution ends, the arguments as they were and the result at its value.
-/
module

public import proofs.«01_k».proof.Proof.KernelIdeal.Host

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split wp_seq tcRefs after launchContents)
open Idealize.ShloMosaic.Transfers (shareDrop shareTok)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

/-- The lengths, as an argument of the program. -/
abbrev nLoc (d : Dev nD) : Loc nD τ sig := (SparseCore.T d).loc main_arg1

/-- The lengths and the reciprocals, laid out per tile. -/
abbrev NT (d : Dev nD) : S2x16x16.Idx → BitVec 32 := perTile (F := F) (e := .i32) (m (nLoc d))
abbrev QT (d : Dev nD) : S2x16x16.Idx → F .f32 := perTile (e := .f32) (recips (m (nLoc d)))
/-- The result. -/
abbrev RT (d : Dev nD) : S16x1024.Idx → F .f32 := res (m (xLoc d)) (NT m d) (QT m d)

/-- What the proof asks of the memory: every length is between 1 and 2047. -/
def Lens : Prop := ∀ (d : Dev nD) (j : S16.Idx), Len (m (nLoc d) j)

/-! ## What a tile takes and brings back -/

def coordsV (c : Fin (grid0.bound 0)) (s : Fin (grid0.bound 1)) : grid0.Coords :=
  fun | 0 => c | 1 => s | ⟨_ + 2, h⟩ => absurd h (Nat.not_lt.2 (Nat.le_add_left _ _))

/-- Tile (c, i)'s share of an array every tile reads. -/
abbrev tq (c : Fin 2) (i : Fin 16) : PosShare TreeShare := shareTok (shareTok fullShare 2 c) 16 i

/-- A tile's resources, its elements of the result at contents `f`. -/
abbrev tilePts (d : Dev nD) (c : Fin 2) (i : Fin 16) (f : Buf (Elt F) (oLoc d)) : sProp 𝕄 :=
  iprop((xLoc d ↦{tq c i} m (xLoc d)) ∗ (lLoc d ↦{tq c i} (NT m d : Buf (Elt F) (lLoc d))) ∗ (qLoc d ↦{tq c i} (QT m d : Buf (Elt F) (qLoc d)))
    ∗ oLoc d ↦[oSet (coordsV c i)]{fullShare} f)

/-- A core's: its tiles'. -/
abbrev corePts (d : Dev nD) (c : Fin 2) (f : Buf (Elt F) (oLoc d)) : sProp 𝕄 :=
  bigSep Finset.univ fun i : Fin 16 => tilePts m d c i f

def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (RT m d)
  go := fun q d c i => match q with | 0 => tilePts m d (Fin.cast nCore_zero c) (Fin.cast nSub_zero i) (m (oLoc d))
  td := fun q d c i => match q with | 0 => tilePts m d (Fin.cast nCore_zero c) (Fin.cast nSub_zero i) (RT m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (RT m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (RT m d)))

/-! ## The tile's obligation -/

theorem defs₀_vector (c : Fin τ.nSC) (s : Fin τ.nSub) :
    defs₀ (F := F) (.scVector c s) 0 ()
      = SparseCore.onTile hcore0 hsub0 (fun c s => cc0__body (coordsV c s)
          xV (Memref.isWhole_whole _) lV (Memref.isWhole_whole _) qV (Memref.isWhole_whole _) oV (Memref.isWhole_whole _)
          lB (Memref.isWhole_whole _) qB (Memref.isWhole_whole _) xB (Memref.isWhole_whole _) oB (Memref.isWhole_whole _)
          cc0_scoped0 cc0_scoped1 cc0_scoped2 cc0_scoped3 cc0_scoped4) ⟨⟩ c s := rfl

/-- A tile's body from its resources as the launch deals them, to the same with its elements of the result written. -/
theorem tile_pts (d : Dev nD) (c : Fin 2) (i : Fin 16) (hN : Lens m) (O : CellTallies nD τ sig (HIx 1)) (W : Waits sig (HIx 1)) (hO : ∀ g, O g none = 0) :
    (iprop(levAts (K (F := F)).L (K (F := F)).lev ∗ emp ∗ tilePts m d c i (m (oLoc d))
        ∗ scopedBufs (thr d (coordsV c i)) ∗ scopedSems0 (thr d (coordsV c i)) ∗ owes (thr d (coordsV c i)) O W) : sProp 𝕄)
      ⊢ wp frame (wpE (defs₀ (F := F)) 𝒱₀ (thr d (coordsV c i)) none) Set.univ
          (cc0__body (coordsV c i) xV (Memref.isWhole_whole _) lV (Memref.isWhole_whole _) qV (Memref.isWhole_whole _) oV (Memref.isWhole_whole _)
            lB (Memref.isWhole_whole _) qB (Memref.isWhole_whole _) xB (Memref.isWhole_whole _) oB (Memref.isWhole_whole _)
            cc0_scoped0 cc0_scoped1 cc0_scoped2 cc0_scoped3 cc0_scoped4)
          fun _ => iprop(tilePts m d c i (RT m d) ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  have hlen : Len (NT m d (ixT ((coordsV c i) 0).val ((coordsV c i) 1).val)) := by
    show Len (NT m d (ixT c.val i.val))
    rw [NT, perTile_apply]
    exact hN d _
  have body := tile_body (F := F) d (coordsV c i) (m (xLoc d)) (NT m d) (QT m d) facts (tq c i) (tq c i) (tq c i) (m (oLoc d)) O W hO hlen
  refine BIBase.Entails.trans ?_ (body.trans (wp_mono frame _ _ fun _ => ?_))
  · iintro ⟨Hl, He, ⟨Hx, Hn, Hq, Ho⟩, Hb, Hs, HO⟩
    isplitl [Hl]; · iexact Hl
    isplitl [He]; · iexact He
    isplitl [Hx]; · iexact Hx
    isplitl [Hn]; · iexact Hn
    isplitl [Hq]; · iexact Hq
    isplitl [Ho]; · iexact Ho
    isplitl [Hb]; · iexact Hb
    isplitl [Hs]; · iexact Hs
    iexact HO
  · iintro ⟨Hx, Hn, Hq, Ho, Hb, Hs, %W', %hW', HO⟩
    isplitl [Hx Hn Hq Ho]
    · isplitl [Hx]; · iexact Hx
      isplitl [Hn]; · iexact Hn
      isplitl [Hq]; · iexact Hq
      iexact Ho
    isplitl [Hb]; · iexact Hb
    isplitl [Hs]; · iexact Hs
    iexists W'; isplitr
    · ipureintro; exact fun p hp => (hW' p hp).imp_right Or.inl
    · iexact HO

set_option maxRecDepth 16384 in
theorem tileObl (hN : Lens m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_pts m d (Fin.cast nCore_zero c) (Fin.cast nSub_zero i) hN O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's resources are its tiles'. -/
theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (RT m d))
          -∗ corePts m d (Fin.cast nCore_zero c) (RT m d)))
  rw [bigSep_tasks (F := F) (fun i => tilePts m d (Fin.cast nCore_zero c) i (m (oLoc d))),
    bigSep_tasks (F := F) (fun i => tilePts m d (Fin.cast nCore_zero c) i (RT m d))]
  iintro H; imodintro
  isplitl [H]; · iexact H
  iintro H; iexact H

/-! ## The tiles' elements are the result's, each once -/

omit [FloatOps F] in
theorem mem_oSet (c : Fin 2) (s : Fin 16) (i : S16x1024.Idx) :
    i ∈ oSet (coordsV c s) ↔ (i 0).val = 8 * c.val + s.val / 2 ∧ (i 1).val / 512 = s.val % 2 := by
  have e : oSet (coordsV c s) = (Rect.unit (s := S16x1024) (k0_off132 (coordsV c s)) S1x512.size (k0_off132_inb (coordsV c s))).set := by
    show (((View.whole (main_v31_scv : Ref sig .scVector)).slice _).reshape _ _).set = _
    rw [View.set_reshape, View.set_slice]; exact Finset.map_refl
  have o : k0_off132 (coordsV c s) = ![8 * c.val + s.val / 2, 512 * (s.val % 2)] := out_off _
  rw [e, Rect.mem_set_unit, o]
  have h1 : (i 1).val < 1024 := (i 1).isLt
  constructor
  · intro h
    have a : 8 * c.val + s.val / 2 ≤ (i 0).val ∧ (i 0).val < 8 * c.val + s.val / 2 + 1 := h 0
    have b : 512 * (s.val % 2) ≤ (i 1).val ∧ (i 1).val < 512 * (s.val % 2) + 512 := h 1
    omega
  · rintro ⟨a, b⟩ k
    match k with
    | 0 => exact (show 8 * c.val + s.val / 2 ≤ (i 0).val ∧ (i 0).val < 8 * c.val + s.val / 2 + 1 by omega)
    | 1 => exact (show 512 * (s.val % 2) ≤ (i 1).val ∧ (i 1).val < 512 * (s.val % 2) + 512 by omega)

/-- A tile's elements, by its pair of coordinates. -/
abbrev pairSet (p : Fin 2 × Fin 16) : Finset S16x1024.Idx := oSet (coordsV p.1 p.2)

omit [FloatOps F] in
theorem pairs_disjoint : ∀ p ∈ (Finset.univ : Finset (Fin 2 × Fin 16)), ∀ p' ∈ (Finset.univ : Finset (Fin 2 × Fin 16)), p ≠ p' → Disjoint (pairSet p) (pairSet p') := by
  rintro ⟨c, s⟩ - ⟨c', s'⟩ - h
  refine Finset.disjoint_left.mpr fun i hi hi' => h ?_
  have a := (mem_oSet c s i).mp hi
  have b := (mem_oSet c' s' i).mp hi'
  exact Prod.ext (Fin.ext (show c.val = c'.val by omega)) (Fin.ext (show s.val = s'.val by omega))

omit [FloatOps F] in
theorem pairs_cover : (Finset.univ : Finset (Fin 2 × Fin 16)).biUnion pairSet = Finset.univ := by
  refine Finset.eq_univ_iff_forall.mpr fun i => ?_
  have h0 : (i 0).val < 16 := (i 0).isLt
  have h1 : (i 1).val < 1024 := (i 1).isLt
  refine Finset.mem_biUnion.mpr ⟨(⟨(i 0).val / 8, by omega⟩, ⟨2 * ((i 0).val % 8) + (i 1).val / 512, by omega⟩), Finset.mem_univ _, ?_⟩
  refine (mem_oSet _ _ i).mpr ⟨?_, ?_⟩
  · show (i 0).val = 8 * ((i 0).val / 8) + (2 * ((i 0).val % 8) + (i 1).val / 512) / 2; omega
  · show (i 1).val / 512 = (2 * ((i 0).val % 8) + (i 1).val / 512) % 2; omega

omit [FloatOps F] in
theorem oPts_tiles (d : Dev nD) (f : Buf (Elt F) (oLoc d)) :
    (oLoc d ↦{fullShare} f : sProp 𝕄) = bigSep Finset.univ fun c : Fin 2 => bigSep Finset.univ fun i : Fin 16 => oLoc d ↦[oSet (coordsV c i)]{fullShare} f := by
  rw [← bigSep_univ_prod (fun p : Fin 2 × Fin 16 => (oLoc d ↦[pairSet p]{fullShare} f : sProp 𝕄)),
    ← pointsTo_biUnion Finset.univ (ℓ := oLoc d) pairSet pairs_disjoint, pairs_cover]

omit [FloatOps F] in
/-- An array dealt among the tiles, a share kept. -/
theorem deal (ℓ : Loc nD τ sig) (f : Buf (Elt F) ℓ) :
    (ℓ ↦{fullShare} f : sProp 𝕄) ⊢ iprop((ℓ ↦{shareDrop fullShare 2} f)
      ∗ bigSep Finset.univ fun c : Fin 2 => bigSep Finset.univ fun i : Fin 16 => ℓ ↦{tq c i} f) := by
  refine (Transfers.pointsTo_toks_split fullShare 2).trans (sep_mono_right (bigSep_mono fun c _ => ?_))
  refine (Transfers.pointsTo_toks_split (shareTok fullShare 2 c) 16).trans ?_
  iintro ⟨-, H⟩; iexact H

/-- The cores' resources: three arrays dealt, and the result whole. -/
theorem cores_eq (d : Dev nD) (f : Buf (Elt F) (oLoc d)) :
    (bigSep Finset.univ fun c : Fin 2 => corePts m d c f)
      = iprop((bigSep Finset.univ fun c : Fin 2 => bigSep Finset.univ fun i : Fin 16 => xLoc d ↦{tq c i} m (xLoc d))
        ∗ (bigSep Finset.univ fun c : Fin 2 => bigSep Finset.univ fun i : Fin 16 => lLoc d ↦{tq c i} (NT m d : Buf (Elt F) (lLoc d)))
        ∗ (bigSep Finset.univ fun c : Fin 2 => bigSep Finset.univ fun i : Fin 16 => qLoc d ↦{tq c i} (QT m d : Buf (Elt F) (qLoc d)))
        ∗ oLoc d ↦{fullShare} f) := by
  rw [oPts_tiles]
  simp only [corePts, tilePts, bigSep_sep']

/-! ## The launch element of the certificate's ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

omit [FloatOps F] in
theorem unscoped_held (d : Dev nD) : (unscopedBufs d (fun b => m ((SparseCore.T d).loc b)) : sProp 𝕄) = held (T d) (tcRefs τ sig) (launchContents m d) := by
  unfold unscopedBufs held tcRefs
  rw [show (Finset.univ.filter fun b : Ref sig .tc => ¬ b.isScoped) = Finset.univ by decide, bigSep_map]
  rfl

/-- The arrays @main's claims and the call name. -/
abbrev S5 : Finset (DevRef τ sig) :=
  {Proc.devRef .tc main_arg0, Proc.devRef .tc main_arg1, Proc.devRef .tc main_v21, Proc.devRef .tc main_v30, Proc.devRef .tc main_v31}

/-- After the host operations: the arguments and the result as they were, the two arrays laid out. -/
theorem held_five (d : Dev nD) :
    (held (T d) (tcRefs τ sig) (after ops (launchContents m d)) : sProp 𝕄)
      ⊢ iprop((xLoc d ↦{fullShare} m (xLoc d)) ∗ (nLoc d ↦{fullShare} m (nLoc d)) ∗ (lLoc d ↦{fullShare} (NT m d : Buf (Elt F) (lLoc d)))
        ∗ (qLoc d ↦{fullShare} (QT m d : Buf (Elt F) (qLoc d))) ∗ oLoc d ↦{fullShare} m (oLoc d)) := by
  have hS : S5 ⊆ tcRefs τ sig := by
    intro b hb
    simp only [S5, Finset.mem_insert, Finset.mem_singleton] at hb
    rcases hb with rfl | rfl | rfl | rfl | rfl <;> exact StableHlo.devRef_mem_tcRefs _
  rw [held_sub_split (T d) hS]
  refine sep_elim_left.trans ?_
  unfold held
  rw [SparseCore.bigSep_insert' (by decide), SparseCore.bigSep_insert' (by decide), SparseCore.bigSep_insert' (by decide),
    SparseCore.bigSep_insert' (by decide), bigSep_singleton, after_x, after_l, after_o, after_lens, after_recips]

abbrev FIN (d : Dev nD) : sProp 𝕄 :=
  iprop((oLoc d ↦{fullShare} (RT m d : Buf (Elt F) (oLoc d))) ∗ (xLoc d ↦{shareDrop fullShare 2} m (xLoc d)) ∗ nLoc d ↦{fullShare} m (nLoc d))

theorem st0_eq (d : Dev nD) : (bigSep Finset.univ fun c : Fin ((K (F := F)).nCore 0) => (P m).st 0 d c) = bigSep Finset.univ fun c : Fin 2 => corePts m d c (m (oLoc d)) :=
  bigSep_cores (F := F) fun c => corePts m d c (m (oLoc d))
theorem dn0_eq (d : Dev nD) : (bigSep Finset.univ fun c : Fin ((K (F := F)).nCore 0) => (P m).dn 0 d c) = bigSep Finset.univ fun c : Fin 2 => corePts m d c (RT m d) :=
  bigSep_cores (F := F) fun c => corePts m d c (RT m d)

/-- @main: the host operations, then the call, which returns the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_seq]
  iintro ⟨#Hctx, Hst, ⟨Hb, Hheld, Hts, -⟩, -⟩
  iapply (wp_seq 𝒱 none Set.univ d (tcRefs τ sig) (fun _ => sc.run d 0) ops ops_sub ops_fresh (launchContents m d)) $$ [Hb Hheld]
  · isplitl [Hb] <;> iassumption
  iintro ⟨Hb, Hheld⟩
  ihave Hh := (held_five m d) $$ Hheld
  icases Hh with ⟨Hx, Hn, Hl, Hq, Ho⟩
  ihave Hx' := (deal (F := F) (xLoc d) _) $$ Hx
  ihave Hl' := (deal (F := F) (lLoc d) _) $$ Hl
  ihave Hq' := (deal (F := F) (qLoc d) _) $$ Hq
  icases Hx' with ⟨Hxk, Hx⟩
  icases Hl' with ⟨-, Hl⟩
  icases Hq' with ⟨-, Hq⟩
  iapply ((K (F := F)).wp_run (D (F := F)) 𝒱 (EH := EH) (P := P m) κ d 0) $$ [Hst Hx Hl Hq Ho Hxk Hn Hb Hts]
  isplitr; · iexact Hctx
  isplitl [Hst]; · iexact Hst
  isplitl [Hx Hl Hq Ho]
  · rw [st0_eq, cores_eq]
    isplitl [Hx]; · iexact Hx
    isplitl [Hl]; · iexact Hl
    isplitl [Hq]; · iexact Hq
    iexact Ho
  iintro ⟨Hst, Hdn⟩
  ihave Hdn' := (Entails.of_eq ((dn0_eq m d).trans (cores_eq m d _))) $$ Hdn
  icases Hdn' with ⟨-, -, -, Ho⟩
  isplitl [Hst]; · iexact Hst
  isplitr [Hb Hts]
  · isplitl [Ho]; · iexact Ho
    isplitl [Hxk]; · iexact Hxk
    iexact Hn
  isplitl [Hb] <;> iassumption

/-- What the claims read of device `d`'s final state. -/
def fq (d : Dev nD) (s' : Phys nD τ sig (Elt F)) : Prop :=
  s'.mem.mem (oLoc d) = RT m d ∧ s'.mem.mem (xLoc d) = m (xLoc d) ∧ s'.mem.mem (nLoc d) = m (nLoc d)

set_option maxRecDepth 16384 in
theorem hfin (d : Dev nD) (s' : Phys nD τ sig (Elt F)) : iprop(FIN m d ∗ SI s') ⊢ (⌜fq m d s'⌝ : sProp 𝕄) := by
  iintro ⟨⟨Ho, Hx, Hn⟩, HSI⟩
  ihave H := (persistent_entails_right (SI_pointsTo_agree (st := s') (ℓ := oLoc d) (I := Finset.univ) (q := fullShare) (f := RT m d))) $$ [HSI Ho]
  · isplitl [HSI] <;> iassumption
  icases H with ⟨%h1, HSI, -⟩
  ihave H := (persistent_entails_right (SI_pointsTo_agree (st := s') (ℓ := xLoc d) (I := Finset.univ) (q := shareDrop fullShare 2) (f := m (xLoc d)))) $$ [HSI Hx]
  · isplitl [HSI] <;> iassumption
  icases H with ⟨%h2, HSI, -⟩
  ihave H := (SI_pointsTo_agree (st := s') (ℓ := nLoc d) (I := Finset.univ) (q := fullShare) (f := m (nLoc d))) $$ [HSI Hn]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every result at its value, the arguments as they were, every semaphore counter zero. -/
def QC : PUnit × MemSt nD τ sig (Elt F) → Prop := fun r =>
  (∀ c : Dev nD, r.2.mem (oLoc c) = RT m c ∧ r.2.mem (xLoc c) = m (xLoc c) ∧ r.2.mem (nLoc c) = m (nLoc c)) ∧ r.2.sem = fun _ => 0

theorem run_main [∀ e, Nonempty (Elt F e)] (hN : Lens m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hN)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI

end
-- ==== Proof.KernelIdeal.Frame.lean ====
/-
  Under the precondition the program runs, ends with its counters at zero, and leaves its arguments as they were.
-/
module

public import proofs.«01_k».proof.Defs
public import proofs.«01_k».proof.Proof.KernelIdeal.Launch
public import proofs.«01_k».proof.Proof.Pre

@[expose] public section

noncomputable section

namespace Cert.Proof.KI

open Cert.KernelIdeal Cert.KernelIdeal.Gen
open Idealize.ShloMosaic Idealize.SL.Sem

/-- The precondition gives every length its bounds. -/
theorem lens_of_pre (m : (ℓ : Loc nD τ sig) → Buf (Elt Ideal) ℓ) (h : Cert.Pre_KernelIdeal m) : Lens (F := Ideal) m := fun d j =>
  have r := Pre.lens_range _ _ (h d) j
  ⟨r.1, r.2⟩

/-- `Cert.quiescent_KernelIdeal` (Defs.lean). -/
theorem frame : Cert.quiescent_KernelIdeal := fun m ρ hpre =>
  (θ_run Cert.KernelIdeal.defs _ _).mono (fun _ h => ⟨fun c => (h.1 c).2, h.2⟩) (run_main (F := Ideal) m ρ (lens_of_pre m hpre))

end Cert.Proof.KI

end
-- ==== Proof.Mean.lean ====
/-
  The arithmetic, in extended reals: the reference's masked sum over all 2048 rows, divided by the length, is the sum of
  the rows below the length times the length's reciprocal.
-/
module

public import proofs.«01_k».proof.Proof.Gen.ReferenceIdeal.Run
public import Idealize.ShloMosaic.Lib.Pointwise
public import Idealize.ShloMosaic.Lib.IdealHost
public import Idealize.ShloMosaic.Lib.StableHlo.Predicate

@[expose] public section

set_option maxRecDepth 16384

noncomputable section

namespace Cert.Proof.Mean

open Cert.ReferenceIdeal Cert.ReferenceIdeal.Gen
open Idealize.ShloMosaic Idealize.ShloMosaic.TcCoe Idealize.SL.Sem
open scoped BigOperators

/-- The reference's result, as a function of the rows and the lengths. -/
def refMean (X : FVec Ideal S16x2048x1024 .f32) (l : IVec S16 32) : FVec Ideal S16x1024 .f32 :=
  Host.divf (Host.reduceAdd (mulf X (broadcastInDim S16x2048x1024 ![0, 1, 2] bcast_S16x2048x1_S16x2048x1024_0_1_2
      (broadcastInDim S16x2048x1 ![0, 1] bcast_S16x2048_S16x2048x1_0_1 (uitofp .f32
        (cmpi .slt (broadcastInDim S16x2048 ![0, 1] bcast_S1x2048_S16x2048_0_1
            (broadcastInDim S1x2048 ![1] bcast_S2048_S1x2048_1 (iotaInDim S2048 32 0)))
          (broadcastInDim S16x2048 ![0, 1] bcast_S16x1_S16x2048_0_1 (broadcastInDim S16x1 ![0] bcast_S16_S16x1_0 l)))))))
      (constant S_ .f32 0x00000000#32) reducesTo_S16x2048x1024_S16x1024_d1 h_S_)
    (broadcastInDim S16x1024 ![0, 1] bcast_S16x1_S16x1024_0_1 (sitofp .f32 (broadcastInDim S16x1 ![0] bcast_S16_S16x1_0 l)))

/-- The reference's result at entry `b`, column `d`: every row counted once if below the length and not at all if not,
    divided by the length. -/
theorem refMean_apply (X : FVec Ideal S16x2048x1024 .f32) (l : IVec S16 32) (b : Fin 16) (d : Fin 1024) :
    refMean X l (ix2 b d)
      = Ideal.div (∑ t : Fin 2048, X (ix3 b t d) * (((IntOp.cmpi .slt (BitVec.ofNat 32 t.val) (l (ix1 b))).toNat : ℝ) : EReal))
          (((l (ix1 b)).toInt : ℝ) : EReal) := by
  pointwise [refMean]
  rfl

/-- The mask of a row: one below the length, zero from it on. -/
theorem mask_eq (v : BitVec 32) (hv : v.toNat ≤ 2047) (t : ℕ) (ht : t < 2048) :
    (((IntOp.cmpi .slt (BitVec.ofNat 32 t) v).toNat : ℝ) : EReal) = if t < v.toNat then 1 else 0 := by
  have e : (BitVec.ofNat 32 t).toNat = t := by rw [BitVec.toNat_ofNat]; omega
  have key := StableHlo.Predicate.slt_iff_toNat (a := BitVec.ofNat 32 t) (b := v) (by omega) (by omega)
  rw [e] at key
  by_cases h : t < v.toNat
  · rw [if_pos h, key.mpr h]; norm_num
  · have h0 : IntOp.cmpi .slt (BitVec.ofNat 32 t) v = 0#1 := by
      have hne := mt key.mp h
      revert hne
      generalize IntOp.cmpi .slt (BitVec.ofNat 32 t) v = w
      revert w; decide
    rw [if_neg h, h0]; norm_num

/-- A sum over all 2048 rows in which only those below `n` count is the sum of those below `n`. -/
theorem sum_masked (f : ℕ → EReal) (n : ℕ) (hn : n ≤ 2048) :
    ∑ t : Fin 2048, f t.val * (if t.val < n then 1 else 0) = ∑ t ∈ Finset.range n, f t := by
  rw [Fin.sum_univ_eq_sum_range (fun t => f t * (if t < n then 1 else 0)) 2048]
  rw [← Finset.sum_subset (Finset.range_subset_range.mpr hn) (fun t _ h => by
    rw [if_neg (by simpa using h), mul_zero])]
  exact Finset.sum_congr rfl fun t h => by rw [if_pos (Finset.mem_range.mp h), mul_one]

/-- The reference's result at an entry whose length is between 1 and 2047: the sum of the rows below the length, times
    the quotient of one by the length. -/
theorem refMean_eq (X : FVec Ideal S16x2048x1024 .f32) (l : IVec S16 32) (b : Fin 16) (d : Fin 1024)
    (pos : 1 ≤ (l (ix1 b)).toNat) (le : (l (ix1 b)).toNat ≤ 2047) (f : ℕ → EReal)
    (hf : ∀ t : Fin 2048, f t.val = X (ix3 b t d)) :
    refMean X l (ix2 b d)
      = (∑ t ∈ Finset.range (l (ix1 b)).toNat, f t) * Ideal.div 1 (((l (ix1 b)).toInt : ℝ) : EReal) := by
  have e := StableHlo.Predicate.toInt_eq_toNat_of_lt (a := l (ix1 b)) (by omega)
  have nz : (((l (ix1 b)).toInt : ℝ) : EReal) ≠ 0 := by
    rw [e, ← EReal.coe_zero, Ne, EReal.coe_eq_coe_iff]
    exact_mod_cast (by omega : (l (ix1 b)).toNat ≠ 0)
  rw [Ideal.mul_one_div nz, refMean_apply]
  refine congrArg (fun s => Ideal.div s _) ?_
  rw [← sum_masked f _ (by omega)]
  exact Finset.sum_congr rfl fun t _ => by rw [hf t, mask_eq _ le t.val t.isLt]

end Cert.Proof.Mean

end
-- ==== Proof.Reference.lean ====
/-
  The reference runs, ends with its counters at zero, and leaves its arguments as they were; its result is the masked
  mean of its arguments.
-/
module

public import proofs.«01_k».proof.Defs
public import proofs.«01_k».proof.Proof.Mean
public import proofs.«01_k».proof.Proof.Gen.Pre_lens_in_range

@[expose] public section

noncomputable section

namespace Cert.Proof.Reference

open Cert.ReferenceIdeal Cert.ReferenceIdeal.Gen Cert.ReferenceIdeal.Value
open Idealize.ShloMosaic Idealize.ShloMosaic.TcCoe Idealize.SL.Sem Idealize.ShloMosaic.StableHlo

/-- From any memory: the arguments end as they were and every counter at zero, for the program declares no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run (F := Ideal) m ρ)

/-- `Cert.quiescent_ReferenceIdeal` (Defs.lean). -/
theorem frame : Cert.quiescent_ReferenceIdeal := fun m ρ _ => quiet m ρ

/-- `Cert.quiescent_ReferenceIdeal_pre_lens_in_range` (Defs.lean). -/
theorem frame_pre : Cert.quiescent_ReferenceIdeal_pre_lens_in_range := fun m ρ _ => quiet m ρ

/-- From any memory: the result ends at the masked mean of the arguments, and the arguments as they were. -/
theorem mean (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14)
          = Mean.refMean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run (F := Ideal) m ρ

end Cert.Proof.Reference

end
-- ==== Proof.KernelIdeal.Value.lean ====
/-
  The kernel's result in extended reals: each element is the masked mean the reference computes.
-/
module

public import proofs.«01_k».proof.Proof.KernelIdeal.Frame
public import proofs.«01_k».proof.Proof.Reference

@[expose] public section

noncomputable section

namespace Cert.Proof.KI

open Cert.KernelIdeal Cert.KernelIdeal.Gen
open Idealize.ShloMosaic Idealize.SL.Sem
open scoped BigOperators

/-- In extended reals the sum of the first `n` rows, added in order from zero, is their sum. -/
theorem colSum_eq (X : S16x2048x1024.Idx → EReal) (b c n : ℕ) :
    colSum (F := Ideal) X b c n = ∑ t ∈ Finset.range n, X (ix3 b t c) := by
  induction n with
  | zero => exact Ideal.ofBits_zero_f32
  | succ n ih =>
    rw [Finset.sum_range_succ, ← ih]
    rfl

/-- The tile that has batch entry `b` and column `d` holds that entry's value in an array laid out for the tiles. -/
theorem perTile_at {F : FTy → Type} [FloatOps F] {e : EltTy} (x : (⟨S16, e⟩ : BufTy).Contents (Elt F)) (b : Fin 16) (d : Fin 1024) :
    perTile x (ixT (b.val / 8) (2 * (b.val % 8) + d.val / 512)) = x (ValueIdx.ix1 b) := by
  refine (perTile_apply x ⟨b.val / 8, by omega⟩ ⟨2 * (b.val % 8) + d.val / 512, by omega⟩).trans ?_
  exact congrArg (fun k => x (ValueIdx.ix1 k)) (Fin.ext (by show 8 * (b.val / 8) + (2 * (b.val % 8) + d.val / 512) / 2 = b.val; omega))

/-- A length's reciprocal in extended reals. -/
theorem recips_eq (l : S16.Idx → BitVec 32) (j : S16.Idx) :
    recips (F := Ideal) l j = Ideal.div 1 (((l j).toInt : ℝ) : EReal) :=
  congrArg (fun o => Ideal.div o (((l j).toInt : ℝ) : EReal)) Ideal.ofBits_one_f32

/-- Of lengths between 1 and 2047, the kernel's result is the reference's. -/
theorem value (m : (ℓ : Loc nD τ sig) → Buf (Elt Ideal) ℓ) (hN : Lens (F := Ideal) m) (c : Dev nD) :
    RT (F := Ideal) m c = Mean.refMean (m (xLoc c)) (m (nLoc c)) := by
  funext i
  obtain ⟨b, d, rfl⟩ : ∃ (b : Fin 16) (d : Fin 1024), i = Idealize.ShloMosaic.ix2 b d := ⟨i 0, i 1, eq_ix2 i⟩
  have hl := hN c (ValueIdx.ix1 b)
  refine Eq.trans ?_ (Mean.refMean_eq (m (xLoc c)) (m (nLoc c)) b d hl.pos hl.le (fun t => m (xLoc c) (ix3 b.val t d.val)) ?_).symm
  · show colSum (F := Ideal) (m (xLoc c)) b.val d.val (NT (F := Ideal) m c (ixT (b.val / 8) (2 * (b.val % 8) + d.val / 512))).toNat
      * QT (F := Ideal) m c (ixT (b.val / 8) (2 * (b.val % 8) + d.val / 512)) = _
    have eN : NT (F := Ideal) m c (ixT (b.val / 8) (2 * (b.val % 8) + d.val / 512)) = m (nLoc c) (ValueIdx.ix1 b) :=
      perTile_at (F := Ideal) (e := .i32) (m (nLoc c)) b d
    have eQ : QT (F := Ideal) m c (ixT (b.val / 8) (2 * (b.val % 8) + d.val / 512)) = Ideal.div 1 (((m (nLoc c) (ValueIdx.ix1 b)).toInt : ℝ) : EReal) :=
      (perTile_at (F := Ideal) (e := .f32) (recips (m (nLoc c))) b d).trans (recips_eq (m (nLoc c)) (ValueIdx.ix1 b))
    rw [colSum_eq, eN, eQ]
    rfl
  · intro t
    refine congrArg (m (xLoc c)) (funext fun a => Fin.ext ?_)
    match a with
    | 0 => exact Nat.mod_eq_of_lt b.isLt
    | 1 => exact Nat.mod_eq_of_lt t.isLt
    | 2 => exact Nat.mod_eq_of_lt d.isLt

/-- `Cert.algebraic_KernelIdeal_ReferenceIdeal` (Defs.lean): both results are the masked mean of the arguments. -/
theorem algebraic : Cert.algebraic_KernelIdeal_ReferenceIdeal := by
  intro m ρ m' ρ' hpre hagree
  have hN := lens_of_pre m hpre
  refine ⟨fun c => Mean.refMean (m (xLoc c)) (m (nLoc c)),
    (θ_run Cert.KernelIdeal.defs _ _).mono (fun _ h c => ⟨(h.1 c).1.trans (value m hN c), (h.1 c).2⟩) (run_main (F := Ideal) m ρ hN),
    (θ_run Cert.ReferenceIdeal.defs _ _).mono (fun _ h c => ⟨(h c).1.trans ?_, (h c).2⟩) (Reference.mean m' ρ')⟩
  exact congrArg₂ Mean.refMean (hagree c).1 (hagree c).2

end Cert.Proof.KI

end
-- ==== Proof.lean ====
/-
  The proof of `Cert.Claim` (Defs.lean): the kernel's frame, as written and read in extended reals (Proof/Kernel/Frame.lean,
  Proof/KernelIdeal/Frame.lean), the reference's (Proof/Reference.lean), and the equality of the two results in extended
  reals (Proof/KernelIdeal/Value.lean). The idealization replaces no operation, so there is nothing to preserve.
-/
module

public import proofs.«01_k».proof.Defs
public import proofs.«01_k».proof.Proof.Kernel.Frame
public import proofs.«01_k».proof.Proof.KernelIdeal.Value

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_lens_in_range.Gen.facts,
    KB.frame, KI.frame, Reference.frame, Reference.frame_pre, trivial, KI.algebraic⟩

end Cert.Proof

end
